-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 1024]⟩ ⟨2, ![1024, 1024]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 128]⟩ ⟨2, ![1024, 1024]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x1024 : Shape := ⟨2, ![128, 1024]⟩
abbrev S1024x1024 : Shape := ⟨2, ![1024, 1024]⟩
abbrev S1024x128 : Shape := ⟨2, ![1024, 128]⟩
abbrev S8x128x128 : Shape := ⟨3, ![8, 128, 128]⟩
abbrev S8 : Shape := ⟨1, ![8]⟩
abbrev S_ : Shape := ⟨0, ![]⟩
abbrev S1024x512 : Shape := ⟨2, ![1024, 512]⟩
abbrev S128x512 : Shape := ⟨2, ![128, 512]⟩
abbrev S128x128 : Shape := ⟨2, ![128, 128]⟩
abbrev S1x128x128 : Shape := ⟨3, ![1, 128, 128]⟩
abbrev S1 : Shape := ⟨1, ![1]⟩

abbrev nBuf : Space → Nat
  | .hbm => 3
  | .vmem => 5
  | .smem => 0
  | _ => 0

abbrev bufTy : (tb : Table) → Fin (tcTables nBuf tb) → BufTy
  | .hbm, ⟨0, _⟩ => ⟨S128x1024, .f32⟩
  | .hbm, ⟨1, _⟩ => ⟨S1024x1024, .f32⟩
  | .hbm, ⟨2, _⟩ => ⟨S1024x128, .f32⟩
  | .local _ .vmem, ⟨0, _⟩ => ⟨S128x1024, .f32⟩
  | .local _ .vmem, ⟨1, _⟩ => ⟨S1024x1024, .f32⟩
  | .local _ .vmem, ⟨2, _⟩ => ⟨S1024x128, .f32⟩
  | .local _ .vmem, ⟨3, _⟩ => ⟨S8x128x128, .bf16⟩
  | .local _ .vmem, ⟨4, _⟩ => ⟨S8x128x128, .bf16⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_80 : BitVec 32 := 2#32
  let v133 : BitVec 32 := Scalar.addi v2 c2_i32_80
  let c8_i32_81 : BitVec 32 := 8#32
  let c0_i32_82 : BitVec 32 := 0#32
  let v134 : BitVec 1 := Scalar.cmpi .eq c8_i32_81 c0_i32_82
  let c1_i32_83 : BitVec 32 := 1#32
  let v135 : BitVec 32 := Scalar.select v134 c1_i32_83 c8_i32_81
  let v136 : BitVec 32 := Scalar.remsi v133 v135
  let c0_i32_85 : BitVec 32 := 0#32
  let v138 : BitVec 1 := Scalar.cmpi .slt v136 c0_i32_85
  let c0_i32_86 : BitVec 32 := 0#32
  let v139 : BitVec 1 := Scalar.cmpi .slt v135 c0_i32_86
  let v140 : BitVec 1 := Scalar.xori v138 v139
  let c0_i32_84 : BitVec 32 := 0#32
  let v137 : BitVec 1 := Scalar.cmpi .ne v136 c0_i32_84
  let v141 : BitVec 1 := Scalar.andi v140 v137
  let v142 : BitVec 32 := Scalar.addi v136 v135
  let v143 : BitVec 32 := Scalar.select v141 v142 v136
  let c4_i32_87 : BitVec 32 := 4#32
  let v144 : BitVec 1 := Scalar.cmpi .slt v143 c4_i32_87
  let v145 : BitVec 32 := Scalar.extui v144
  let c0_i32_91 : BitVec 32 := 0#32
  let v146 : BitVec 1 := Scalar.cmpi .ne v145 c0_i32_91
  v146

def k0_off1 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_80 : BitVec 32 := 2#32
  let v133 : BitVec 32 := Scalar.addi v2 c2_i32_80
  let c8_i32_81 : BitVec 32 := 8#32
  let c0_i32_82 : BitVec 32 := 0#32
  let v134 : BitVec 1 := Scalar.cmpi .eq c8_i32_81 c0_i32_82
  let c1_i32_83 : BitVec 32 := 1#32
  let v135 : BitVec 32 := Scalar.select v134 c1_i32_83 c8_i32_81
  let v136 : BitVec 32 := Scalar.remsi v133 v135
  let c0_i32_85 : BitVec 32 := 0#32
  let v138 : BitVec 1 := Scalar.cmpi .slt v136 c0_i32_85
  let c0_i32_86 : BitVec 32 := 0#32
  let v139 : BitVec 1 := Scalar.cmpi .slt v135 c0_i32_86
  let v140 : BitVec 1 := Scalar.xori v138 v139
  let c0_i32_84 : BitVec 32 := 0#32
  let v137 : BitVec 1 := Scalar.cmpi .ne v136 c0_i32_84
  let v141 : BitVec 1 := Scalar.andi v140 v137
  let v142 : BitVec 32 := Scalar.addi v136 v135
  let v143 : BitVec 32 := Scalar.select v141 v142 v136
  let c0_i32_479 : BitVec 32 := 0#32
  let c0_i32_480 : BitVec 32 := 0#32
  ![v143.toNat, 0, 0]
def k0_dev8 (d0 : Dev nD) : Nat :=
  let c0_i32_476 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_80 : BitVec 32 := 2#32
  let v133 : BitVec 32 := Scalar.addi v2 c2_i32_80
  let c8_i32_81 : BitVec 32 := 8#32
  let c0_i32_82 : BitVec 32 := 0#32
  let v134 : BitVec 1 := Scalar.cmpi .eq c8_i32_81 c0_i32_82
  let c1_i32_83 : BitVec 32 := 1#32
  let v135 : BitVec 32 := Scalar.select v134 c1_i32_83 c8_i32_81
  let v136 : BitVec 32 := Scalar.remsi v133 v135
  let c0_i32_85 : BitVec 32 := 0#32
  let v138 : BitVec 1 := Scalar.cmpi .slt v136 c0_i32_85
  let c0_i32_86 : BitVec 32 := 0#32
  let v139 : BitVec 1 := Scalar.cmpi .slt v135 c0_i32_86
  let v140 : BitVec 1 := Scalar.xori v138 v139
  let c0_i32_84 : BitVec 32 := 0#32
  let v137 : BitVec 1 := Scalar.cmpi .ne v136 c0_i32_84
  let v141 : BitVec 1 := Scalar.andi v140 v137
  let v142 : BitVec 32 := Scalar.addi v136 v135
  let v143 : BitVec 32 := Scalar.select v141 v142 v136
  let c1_i32_475 : BitVec 32 := 1#32
  let v589 : BitVec 32 := Scalar.muli v143 c1_i32_475
  let v590 : BitVec 32 := Scalar.addi c0_i32_476 v589
  v590.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_92 : BitVec 32 := 6#32
  let v147 : BitVec 32 := Scalar.addi v2 c6_i32_92
  let c8_i32_93 : BitVec 32 := 8#32
  let c0_i32_94 : BitVec 32 := 0#32
  let v148 : BitVec 1 := Scalar.cmpi .eq c8_i32_93 c0_i32_94
  let c1_i32_95 : BitVec 32 := 1#32
  let v149 : BitVec 32 := Scalar.select v148 c1_i32_95 c8_i32_93
  let v150 : BitVec 32 := Scalar.remsi v147 v149
  let c0_i32_97 : BitVec 32 := 0#32
  let v152 : BitVec 1 := Scalar.cmpi .slt v150 c0_i32_97
  let c0_i32_98 : BitVec 32 := 0#32
  let v153 : BitVec 1 := Scalar.cmpi .slt v149 c0_i32_98
  let v154 : BitVec 1 := Scalar.xori v152 v153
  let c0_i32_96 : BitVec 32 := 0#32
  let v151 : BitVec 1 := Scalar.cmpi .ne v150 c0_i32_96
  let v155 : BitVec 1 := Scalar.andi v154 v151
  let v156 : BitVec 32 := Scalar.addi v150 v149
  let v157 : BitVec 32 := Scalar.select v155 v156 v150
  let c4_i32_99 : BitVec 32 := 4#32
  let v158 : BitVec 1 := Scalar.cmpi .slt v157 c4_i32_99
  let v159 : BitVec 32 := Scalar.extui v158
  let c0_i32_103 : BitVec 32 := 0#32
  let v160 : BitVec 1 := Scalar.cmpi .ne v159 c0_i32_103
  v160

def k0_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_92 : BitVec 32 := 6#32
  let v147 : BitVec 32 := Scalar.addi v2 c6_i32_92
  let c8_i32_93 : BitVec 32 := 8#32
  let c0_i32_94 : BitVec 32 := 0#32
  let v148 : BitVec 1 := Scalar.cmpi .eq c8_i32_93 c0_i32_94
  let c1_i32_95 : BitVec 32 := 1#32
  let v149 : BitVec 32 := Scalar.select v148 c1_i32_95 c8_i32_93
  let v150 : BitVec 32 := Scalar.remsi v147 v149
  let c0_i32_97 : BitVec 32 := 0#32
  let v152 : BitVec 1 := Scalar.cmpi .slt v150 c0_i32_97
  let c0_i32_98 : BitVec 32 := 0#32
  let v153 : BitVec 1 := Scalar.cmpi .slt v149 c0_i32_98
  let v154 : BitVec 1 := Scalar.xori v152 v153
  let c0_i32_96 : BitVec 32 := 0#32
  let v151 : BitVec 1 := Scalar.cmpi .ne v150 c0_i32_96
  let v155 : BitVec 1 := Scalar.andi v154 v151
  let v156 : BitVec 32 := Scalar.addi v150 v149
  let v157 : BitVec 32 := Scalar.select v155 v156 v150
  let c0_i32_479 : BitVec 32 := 0#32
  let c0_i32_480 : BitVec 32 := 0#32
  ![v157.toNat, 0, 0]
def k0_dev9 (d0 : Dev nD) : Nat :=
  let c0_i32_476 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_92 : BitVec 32 := 6#32
  let v147 : BitVec 32 := Scalar.addi v2 c6_i32_92
  let c8_i32_93 : BitVec 32 := 8#32
  let c0_i32_94 : BitVec 32 := 0#32
  let v148 : BitVec 1 := Scalar.cmpi .eq c8_i32_93 c0_i32_94
  let c1_i32_95 : BitVec 32 := 1#32
  let v149 : BitVec 32 := Scalar.select v148 c1_i32_95 c8_i32_93
  let v150 : BitVec 32 := Scalar.remsi v147 v149
  let c0_i32_97 : BitVec 32 := 0#32
  let v152 : BitVec 1 := Scalar.cmpi .slt v150 c0_i32_97
  let c0_i32_98 : BitVec 32 := 0#32
  let v153 : BitVec 1 := Scalar.cmpi .slt v149 c0_i32_98
  let v154 : BitVec 1 := Scalar.xori v152 v153
  let c0_i32_96 : BitVec 32 := 0#32
  let v151 : BitVec 1 := Scalar.cmpi .ne v150 c0_i32_96
  let v155 : BitVec 1 := Scalar.andi v154 v151
  let v156 : BitVec 32 := Scalar.addi v150 v149
  let v157 : BitVec 32 := Scalar.select v155 v156 v150
  let c1_i32_475 : BitVec 32 := 1#32
  let v589 : BitVec 32 := Scalar.muli v157 c1_i32_475
  let v590 : BitVec 32 := Scalar.addi c0_i32_476 v589
  v590.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_104 : BitVec 32 := 3#32
  let v161 : BitVec 32 := Scalar.addi v2 c3_i32_104
  let c8_i32_105 : BitVec 32 := 8#32
  let c0_i32_106 : BitVec 32 := 0#32
  let v162 : BitVec 1 := Scalar.cmpi .eq c8_i32_105 c0_i32_106
  let c1_i32_107 : BitVec 32 := 1#32
  let v163 : BitVec 32 := Scalar.select v162 c1_i32_107 c8_i32_105
  let v164 : BitVec 32 := Scalar.remsi v161 v163
  let c0_i32_109 : BitVec 32 := 0#32
  let v166 : BitVec 1 := Scalar.cmpi .slt v164 c0_i32_109
  let c0_i32_110 : BitVec 32 := 0#32
  let v167 : BitVec 1 := Scalar.cmpi .slt v163 c0_i32_110
  let v168 : BitVec 1 := Scalar.xori v166 v167
  let c0_i32_108 : BitVec 32 := 0#32
  let v165 : BitVec 1 := Scalar.cmpi .ne v164 c0_i32_108
  let v169 : BitVec 1 := Scalar.andi v168 v165
  let v170 : BitVec 32 := Scalar.addi v164 v163
  let v171 : BitVec 32 := Scalar.select v169 v170 v164
  let c4_i32_111 : BitVec 32 := 4#32
  let v172 : BitVec 1 := Scalar.cmpi .slt v171 c4_i32_111
  let v173 : BitVec 32 := Scalar.extui v172
  let c0_i32_115 : BitVec 32 := 0#32
  let v174 : BitVec 1 := Scalar.cmpi .ne v173 c0_i32_115
  v174

def k0_off3 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_104 : BitVec 32 := 3#32
  let v161 : BitVec 32 := Scalar.addi v2 c3_i32_104
  let c8_i32_105 : BitVec 32 := 8#32
  let c0_i32_106 : BitVec 32 := 0#32
  let v162 : BitVec 1 := Scalar.cmpi .eq c8_i32_105 c0_i32_106
  let c1_i32_107 : BitVec 32 := 1#32
  let v163 : BitVec 32 := Scalar.select v162 c1_i32_107 c8_i32_105
  let v164 : BitVec 32 := Scalar.remsi v161 v163
  let c0_i32_109 : BitVec 32 := 0#32
  let v166 : BitVec 1 := Scalar.cmpi .slt v164 c0_i32_109
  let c0_i32_110 : BitVec 32 := 0#32
  let v167 : BitVec 1 := Scalar.cmpi .slt v163 c0_i32_110
  let v168 : BitVec 1 := Scalar.xori v166 v167
  let c0_i32_108 : BitVec 32 := 0#32
  let v165 : BitVec 1 := Scalar.cmpi .ne v164 c0_i32_108
  let v169 : BitVec 1 := Scalar.andi v168 v165
  let v170 : BitVec 32 := Scalar.addi v164 v163
  let v171 : BitVec 32 := Scalar.select v169 v170 v164
  let c0_i32_479 : BitVec 32 := 0#32
  let c0_i32_480 : BitVec 32 := 0#32
  ![v171.toNat, 0, 0]
def k0_dev10 (d0 : Dev nD) : Nat :=
  let c0_i32_476 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_104 : BitVec 32 := 3#32
  let v161 : BitVec 32 := Scalar.addi v2 c3_i32_104
  let c8_i32_105 : BitVec 32 := 8#32
  let c0_i32_106 : BitVec 32 := 0#32
  let v162 : BitVec 1 := Scalar.cmpi .eq c8_i32_105 c0_i32_106
  let c1_i32_107 : BitVec 32 := 1#32
  let v163 : BitVec 32 := Scalar.select v162 c1_i32_107 c8_i32_105
  let v164 : BitVec 32 := Scalar.remsi v161 v163
  let c0_i32_109 : BitVec 32 := 0#32
  let v166 : BitVec 1 := Scalar.cmpi .slt v164 c0_i32_109
  let c0_i32_110 : BitVec 32 := 0#32
  let v167 : BitVec 1 := Scalar.cmpi .slt v163 c0_i32_110
  let v168 : BitVec 1 := Scalar.xori v166 v167
  let c0_i32_108 : BitVec 32 := 0#32
  let v165 : BitVec 1 := Scalar.cmpi .ne v164 c0_i32_108
  let v169 : BitVec 1 := Scalar.andi v168 v165
  let v170 : BitVec 32 := Scalar.addi v164 v163
  let v171 : BitVec 32 := Scalar.select v169 v170 v164
  let c1_i32_475 : BitVec 32 := 1#32
  let v589 : BitVec 32 := Scalar.muli v171 c1_i32_475
  let v590 : BitVec 32 := Scalar.addi c0_i32_476 v589
  v590.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_116 : BitVec 32 := 5#32
  let v175 : BitVec 32 := Scalar.addi v2 c5_i32_116
  let c8_i32_117 : BitVec 32 := 8#32
  let c0_i32_118 : BitVec 32 := 0#32
  let v176 : BitVec 1 := Scalar.cmpi .eq c8_i32_117 c0_i32_118
  let c1_i32_119 : BitVec 32 := 1#32
  let v177 : BitVec 32 := Scalar.select v176 c1_i32_119 c8_i32_117
  let v178 : BitVec 32 := Scalar.remsi v175 v177
  let c0_i32_121 : BitVec 32 := 0#32
  let v180 : BitVec 1 := Scalar.cmpi .slt v178 c0_i32_121
  let c0_i32_122 : BitVec 32 := 0#32
  let v181 : BitVec 1 := Scalar.cmpi .slt v177 c0_i32_122
  let v182 : BitVec 1 := Scalar.xori v180 v181
  let c0_i32_120 : BitVec 32 := 0#32
  let v179 : BitVec 1 := Scalar.cmpi .ne v178 c0_i32_120
  let v183 : BitVec 1 := Scalar.andi v182 v179
  let v184 : BitVec 32 := Scalar.addi v178 v177
  let v185 : BitVec 32 := Scalar.select v183 v184 v178
  let c4_i32_123 : BitVec 32 := 4#32
  let v186 : BitVec 1 := Scalar.cmpi .slt v185 c4_i32_123
  let v187 : BitVec 32 := Scalar.extui v186
  let c0_i32_127 : BitVec 32 := 0#32
  let v188 : BitVec 1 := Scalar.cmpi .ne v187 c0_i32_127
  v188

def k0_off4 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_116 : BitVec 32 := 5#32
  let v175 : BitVec 32 := Scalar.addi v2 c5_i32_116
  let c8_i32_117 : BitVec 32 := 8#32
  let c0_i32_118 : BitVec 32 := 0#32
  let v176 : BitVec 1 := Scalar.cmpi .eq c8_i32_117 c0_i32_118
  let c1_i32_119 : BitVec 32 := 1#32
  let v177 : BitVec 32 := Scalar.select v176 c1_i32_119 c8_i32_117
  let v178 : BitVec 32 := Scalar.remsi v175 v177
  let c0_i32_121 : BitVec 32 := 0#32
  let v180 : BitVec 1 := Scalar.cmpi .slt v178 c0_i32_121
  let c0_i32_122 : BitVec 32 := 0#32
  let v181 : BitVec 1 := Scalar.cmpi .slt v177 c0_i32_122
  let v182 : BitVec 1 := Scalar.xori v180 v181
  let c0_i32_120 : BitVec 32 := 0#32
  let v179 : BitVec 1 := Scalar.cmpi .ne v178 c0_i32_120
  let v183 : BitVec 1 := Scalar.andi v182 v179
  let v184 : BitVec 32 := Scalar.addi v178 v177
  let v185 : BitVec 32 := Scalar.select v183 v184 v178
  let c0_i32_479 : BitVec 32 := 0#32
  let c0_i32_480 : BitVec 32 := 0#32
  ![v185.toNat, 0, 0]
def k0_dev11 (d0 : Dev nD) : Nat :=
  let c0_i32_476 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_116 : BitVec 32 := 5#32
  let v175 : BitVec 32 := Scalar.addi v2 c5_i32_116
  let c8_i32_117 : BitVec 32 := 8#32
  let c0_i32_118 : BitVec 32 := 0#32
  let v176 : BitVec 1 := Scalar.cmpi .eq c8_i32_117 c0_i32_118
  let c1_i32_119 : BitVec 32 := 1#32
  let v177 : BitVec 32 := Scalar.select v176 c1_i32_119 c8_i32_117
  let v178 : BitVec 32 := Scalar.remsi v175 v177
  let c0_i32_121 : BitVec 32 := 0#32
  let v180 : BitVec 1 := Scalar.cmpi .slt v178 c0_i32_121
  let c0_i32_122 : BitVec 32 := 0#32
  let v181 : BitVec 1 := Scalar.cmpi .slt v177 c0_i32_122
  let v182 : BitVec 1 := Scalar.xori v180 v181
  let c0_i32_120 : BitVec 32 := 0#32
  let v179 : BitVec 1 := Scalar.cmpi .ne v178 c0_i32_120
  let v183 : BitVec 1 := Scalar.andi v182 v179
  let v184 : BitVec 32 := Scalar.addi v178 v177
  let v185 : BitVec 32 := Scalar.select v183 v184 v178
  let c1_i32_475 : BitVec 32 := 1#32
  let v589 : BitVec 32 := Scalar.muli v185 c1_i32_475
  let v590 : BitVec 32 := Scalar.addi c0_i32_476 v589
  v590.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_128 : BitVec 32 := 7#32
  let v189 : BitVec 32 := Scalar.addi v2 c7_i32_128
  let c8_i32_129 : BitVec 32 := 8#32
  let c0_i32_130 : BitVec 32 := 0#32
  let v190 : BitVec 1 := Scalar.cmpi .eq c8_i32_129 c0_i32_130
  let c1_i32_131 : BitVec 32 := 1#32
  let v191 : BitVec 32 := Scalar.select v190 c1_i32_131 c8_i32_129
  let v192 : BitVec 32 := Scalar.remsi v189 v191
  let c0_i32_133 : BitVec 32 := 0#32
  let v194 : BitVec 1 := Scalar.cmpi .slt v192 c0_i32_133
  let c0_i32_134 : BitVec 32 := 0#32
  let v195 : BitVec 1 := Scalar.cmpi .slt v191 c0_i32_134
  let v196 : BitVec 1 := Scalar.xori v194 v195
  let c0_i32_132 : BitVec 32 := 0#32
  let v193 : BitVec 1 := Scalar.cmpi .ne v192 c0_i32_132
  let v197 : BitVec 1 := Scalar.andi v196 v193
  let v198 : BitVec 32 := Scalar.addi v192 v191
  let v199 : BitVec 32 := Scalar.select v197 v198 v192
  let c4_i32_135 : BitVec 32 := 4#32
  let v200 : BitVec 1 := Scalar.cmpi .slt v199 c4_i32_135
  let v201 : BitVec 32 := Scalar.extui v200
  let c0_i32_139 : BitVec 32 := 0#32
  let v202 : BitVec 1 := Scalar.cmpi .ne v201 c0_i32_139
  v202

def k0_off5 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_128 : BitVec 32 := 7#32
  let v189 : BitVec 32 := Scalar.addi v2 c7_i32_128
  let c8_i32_129 : BitVec 32 := 8#32
  let c0_i32_130 : BitVec 32 := 0#32
  let v190 : BitVec 1 := Scalar.cmpi .eq c8_i32_129 c0_i32_130
  let c1_i32_131 : BitVec 32 := 1#32
  let v191 : BitVec 32 := Scalar.select v190 c1_i32_131 c8_i32_129
  let v192 : BitVec 32 := Scalar.remsi v189 v191
  let c0_i32_133 : BitVec 32 := 0#32
  let v194 : BitVec 1 := Scalar.cmpi .slt v192 c0_i32_133
  let c0_i32_134 : BitVec 32 := 0#32
  let v195 : BitVec 1 := Scalar.cmpi .slt v191 c0_i32_134
  let v196 : BitVec 1 := Scalar.xori v194 v195
  let c0_i32_132 : BitVec 32 := 0#32
  let v193 : BitVec 1 := Scalar.cmpi .ne v192 c0_i32_132
  let v197 : BitVec 1 := Scalar.andi v196 v193
  let v198 : BitVec 32 := Scalar.addi v192 v191
  let v199 : BitVec 32 := Scalar.select v197 v198 v192
  let c0_i32_479 : BitVec 32 := 0#32
  let c0_i32_480 : BitVec 32 := 0#32
  ![v199.toNat, 0, 0]
def k0_dev12 (d0 : Dev nD) : Nat :=
  let c0_i32_476 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_128 : BitVec 32 := 7#32
  let v189 : BitVec 32 := Scalar.addi v2 c7_i32_128
  let c8_i32_129 : BitVec 32 := 8#32
  let c0_i32_130 : BitVec 32 := 0#32
  let v190 : BitVec 1 := Scalar.cmpi .eq c8_i32_129 c0_i32_130
  let c1_i32_131 : BitVec 32 := 1#32
  let v191 : BitVec 32 := Scalar.select v190 c1_i32_131 c8_i32_129
  let v192 : BitVec 32 := Scalar.remsi v189 v191
  let c0_i32_133 : BitVec 32 := 0#32
  let v194 : BitVec 1 := Scalar.cmpi .slt v192 c0_i32_133
  let c0_i32_134 : BitVec 32 := 0#32
  let v195 : BitVec 1 := Scalar.cmpi .slt v191 c0_i32_134
  let v196 : BitVec 1 := Scalar.xori v194 v195
  let c0_i32_132 : BitVec 32 := 0#32
  let v193 : BitVec 1 := Scalar.cmpi .ne v192 c0_i32_132
  let v197 : BitVec 1 := Scalar.andi v196 v193
  let v198 : BitVec 32 := Scalar.addi v192 v191
  let v199 : BitVec 32 := Scalar.select v197 v198 v192
  let c1_i32_475 : BitVec 32 := 1#32
  let v589 : BitVec 32 := Scalar.muli v199 c1_i32_475
  let v590 : BitVec 32 := Scalar.addi c0_i32_476 v589
  v590.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_140 : BitVec 32 := 1#32
  let v203 : BitVec 32 := Scalar.addi v2 c1_i32_140
  let c8_i32_141 : BitVec 32 := 8#32
  let c0_i32_142 : BitVec 32 := 0#32
  let v204 : BitVec 1 := Scalar.cmpi .eq c8_i32_141 c0_i32_142
  let c1_i32_143 : BitVec 32 := 1#32
  let v205 : BitVec 32 := Scalar.select v204 c1_i32_143 c8_i32_141
  let v206 : BitVec 32 := Scalar.remsi v203 v205
  let c0_i32_145 : BitVec 32 := 0#32
  let v208 : BitVec 1 := Scalar.cmpi .slt v206 c0_i32_145
  let c0_i32_146 : BitVec 32 := 0#32
  let v209 : BitVec 1 := Scalar.cmpi .slt v205 c0_i32_146
  let v210 : BitVec 1 := Scalar.xori v208 v209
  let c0_i32_144 : BitVec 32 := 0#32
  let v207 : BitVec 1 := Scalar.cmpi .ne v206 c0_i32_144
  let v211 : BitVec 1 := Scalar.andi v210 v207
  let v212 : BitVec 32 := Scalar.addi v206 v205
  let v213 : BitVec 32 := Scalar.select v211 v212 v206
  let c4_i32_147 : BitVec 32 := 4#32
  let v214 : BitVec 1 := Scalar.cmpi .slt v213 c4_i32_147
  let v215 : BitVec 32 := Scalar.extui v214
  let c0_i32_151 : BitVec 32 := 0#32
  let v216 : BitVec 1 := Scalar.cmpi .ne v215 c0_i32_151
  v216

def k0_off6 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_140 : BitVec 32 := 1#32
  let v203 : BitVec 32 := Scalar.addi v2 c1_i32_140
  let c8_i32_141 : BitVec 32 := 8#32
  let c0_i32_142 : BitVec 32 := 0#32
  let v204 : BitVec 1 := Scalar.cmpi .eq c8_i32_141 c0_i32_142
  let c1_i32_143 : BitVec 32 := 1#32
  let v205 : BitVec 32 := Scalar.select v204 c1_i32_143 c8_i32_141
  let v206 : BitVec 32 := Scalar.remsi v203 v205
  let c0_i32_145 : BitVec 32 := 0#32
  let v208 : BitVec 1 := Scalar.cmpi .slt v206 c0_i32_145
  let c0_i32_146 : BitVec 32 := 0#32
  let v209 : BitVec 1 := Scalar.cmpi .slt v205 c0_i32_146
  let v210 : BitVec 1 := Scalar.xori v208 v209
  let c0_i32_144 : BitVec 32 := 0#32
  let v207 : BitVec 1 := Scalar.cmpi .ne v206 c0_i32_144
  let v211 : BitVec 1 := Scalar.andi v210 v207
  let v212 : BitVec 32 := Scalar.addi v206 v205
  let v213 : BitVec 32 := Scalar.select v211 v212 v206
  let c0_i32_479 : BitVec 32 := 0#32
  let c0_i32_480 : BitVec 32 := 0#32
  ![v213.toNat, 0, 0]
def k0_dev13 (d0 : Dev nD) : Nat :=
  let c0_i32_476 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_140 : BitVec 32 := 1#32
  let v203 : BitVec 32 := Scalar.addi v2 c1_i32_140
  let c8_i32_141 : BitVec 32 := 8#32
  let c0_i32_142 : BitVec 32 := 0#32
  let v204 : BitVec 1 := Scalar.cmpi .eq c8_i32_141 c0_i32_142
  let c1_i32_143 : BitVec 32 := 1#32
  let v205 : BitVec 32 := Scalar.select v204 c1_i32_143 c8_i32_141
  let v206 : BitVec 32 := Scalar.remsi v203 v205
  let c0_i32_145 : BitVec 32 := 0#32
  let v208 : BitVec 1 := Scalar.cmpi .slt v206 c0_i32_145
  let c0_i32_146 : BitVec 32 := 0#32
  let v209 : BitVec 1 := Scalar.cmpi .slt v205 c0_i32_146
  let v210 : BitVec 1 := Scalar.xori v208 v209
  let c0_i32_144 : BitVec 32 := 0#32
  let v207 : BitVec 1 := Scalar.cmpi .ne v206 c0_i32_144
  let v211 : BitVec 1 := Scalar.andi v210 v207
  let v212 : BitVec 32 := Scalar.addi v206 v205
  let v213 : BitVec 32 := Scalar.select v211 v212 v206
  let c1_i32_475 : BitVec 32 := 1#32
  let v589 : BitVec 32 := Scalar.muli v213 c1_i32_475
  let v590 : BitVec 32 := Scalar.addi c0_i32_476 v589
  v590.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_152 : BitVec 32 := 4#32
  let v217 : BitVec 32 := Scalar.addi v2 c4_i32_152
  let c8_i32_153 : BitVec 32 := 8#32
  let c0_i32_154 : BitVec 32 := 0#32
  let v218 : BitVec 1 := Scalar.cmpi .eq c8_i32_153 c0_i32_154
  let c1_i32_155 : BitVec 32 := 1#32
  let v219 : BitVec 32 := Scalar.select v218 c1_i32_155 c8_i32_153
  let v220 : BitVec 32 := Scalar.remsi v217 v219
  let c0_i32_157 : BitVec 32 := 0#32
  let v222 : BitVec 1 := Scalar.cmpi .slt v220 c0_i32_157
  let c0_i32_158 : BitVec 32 := 0#32
  let v223 : BitVec 1 := Scalar.cmpi .slt v219 c0_i32_158
  let v224 : BitVec 1 := Scalar.xori v222 v223
  let c0_i32_156 : BitVec 32 := 0#32
  let v221 : BitVec 1 := Scalar.cmpi .ne v220 c0_i32_156
  let v225 : BitVec 1 := Scalar.andi v224 v221
  let v226 : BitVec 32 := Scalar.addi v220 v219
  let v227 : BitVec 32 := Scalar.select v225 v226 v220
  let c4_i32_159 : BitVec 32 := 4#32
  let v228 : BitVec 1 := Scalar.cmpi .slt v227 c4_i32_159
  let v229 : BitVec 32 := Scalar.extui v228
  let c0_i32_163 : BitVec 32 := 0#32
  let v230 : BitVec 1 := Scalar.cmpi .ne v229 c0_i32_163
  v230

def k0_off7 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_152 : BitVec 32 := 4#32
  let v217 : BitVec 32 := Scalar.addi v2 c4_i32_152
  let c8_i32_153 : BitVec 32 := 8#32
  let c0_i32_154 : BitVec 32 := 0#32
  let v218 : BitVec 1 := Scalar.cmpi .eq c8_i32_153 c0_i32_154
  let c1_i32_155 : BitVec 32 := 1#32
  let v219 : BitVec 32 := Scalar.select v218 c1_i32_155 c8_i32_153
  let v220 : BitVec 32 := Scalar.remsi v217 v219
  let c0_i32_157 : BitVec 32 := 0#32
  let v222 : BitVec 1 := Scalar.cmpi .slt v220 c0_i32_157
  let c0_i32_158 : BitVec 32 := 0#32
  let v223 : BitVec 1 := Scalar.cmpi .slt v219 c0_i32_158
  let v224 : BitVec 1 := Scalar.xori v222 v223
  let c0_i32_156 : BitVec 32 := 0#32
  let v221 : BitVec 1 := Scalar.cmpi .ne v220 c0_i32_156
  let v225 : BitVec 1 := Scalar.andi v224 v221
  let v226 : BitVec 32 := Scalar.addi v220 v219
  let v227 : BitVec 32 := Scalar.select v225 v226 v220
  let c0_i32_479 : BitVec 32 := 0#32
  let c0_i32_480 : BitVec 32 := 0#32
  ![v227.toNat, 0, 0]
def k0_dev14 (d0 : Dev nD) : Nat :=
  let c0_i32_476 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_152 : BitVec 32 := 4#32
  let v217 : BitVec 32 := Scalar.addi v2 c4_i32_152
  let c8_i32_153 : BitVec 32 := 8#32
  let c0_i32_154 : BitVec 32 := 0#32
  let v218 : BitVec 1 := Scalar.cmpi .eq c8_i32_153 c0_i32_154
  let c1_i32_155 : BitVec 32 := 1#32
  let v219 : BitVec 32 := Scalar.select v218 c1_i32_155 c8_i32_153
  let v220 : BitVec 32 := Scalar.remsi v217 v219
  let c0_i32_157 : BitVec 32 := 0#32
  let v222 : BitVec 1 := Scalar.cmpi .slt v220 c0_i32_157
  let c0_i32_158 : BitVec 32 := 0#32
  let v223 : BitVec 1 := Scalar.cmpi .slt v219 c0_i32_158
  let v224 : BitVec 1 := Scalar.xori v222 v223
  let c0_i32_156 : BitVec 32 := 0#32
  let v221 : BitVec 1 := Scalar.cmpi .ne v220 c0_i32_156
  let v225 : BitVec 1 := Scalar.andi v224 v221
  let v226 : BitVec 32 := Scalar.addi v220 v219
  let v227 : BitVec 32 := Scalar.select v225 v226 v220
  let c1_i32_475 : BitVec 32 := 1#32
  let v589 : BitVec 32 := Scalar.muli v227 c1_i32_475
  let v590 : BitVec 32 := Scalar.addi c0_i32_476 v589
  v590.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_178 : BitVec 32 := 2#32
  let v267 : BitVec 32 := Scalar.addi v2 c2_i32_178
  let c8_i32_179 : BitVec 32 := 8#32
  let c0_i32_180 : BitVec 32 := 0#32
  let v268 : BitVec 1 := Scalar.cmpi .eq c8_i32_179 c0_i32_180
  let c1_i32_181 : BitVec 32 := 1#32
  let v269 : BitVec 32 := Scalar.select v268 c1_i32_181 c8_i32_179
  let v270 : BitVec 32 := Scalar.remsi v267 v269
  let c0_i32_183 : BitVec 32 := 0#32
  let v272 : BitVec 1 := Scalar.cmpi .slt v270 c0_i32_183
  let c0_i32_184 : BitVec 32 := 0#32
  let v273 : BitVec 1 := Scalar.cmpi .slt v269 c0_i32_184
  let v274 : BitVec 1 := Scalar.xori v272 v273
  let c0_i32_182 : BitVec 32 := 0#32
  let v271 : BitVec 1 := Scalar.cmpi .ne v270 c0_i32_182
  let v275 : BitVec 1 := Scalar.andi v274 v271
  let v276 : BitVec 32 := Scalar.addi v270 v269
  let v277 : BitVec 32 := Scalar.select v275 v276 v270
  let c4_i32_185 : BitVec 32 := 4#32
  let v278 : BitVec 1 := Scalar.cmpi .sge v277 c4_i32_185
  let v279 : BitVec 32 := Scalar.extui v278
  let c0_i32_189 : BitVec 32 := 0#32
  let v280 : BitVec 1 := Scalar.cmpi .ne v279 c0_i32_189
  v280

def k0_off8 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_178 : BitVec 32 := 2#32
  let v267 : BitVec 32 := Scalar.addi v2 c2_i32_178
  let c8_i32_179 : BitVec 32 := 8#32
  let c0_i32_180 : BitVec 32 := 0#32
  let v268 : BitVec 1 := Scalar.cmpi .eq c8_i32_179 c0_i32_180
  let c1_i32_181 : BitVec 32 := 1#32
  let v269 : BitVec 32 := Scalar.select v268 c1_i32_181 c8_i32_179
  let v270 : BitVec 32 := Scalar.remsi v267 v269
  let c0_i32_183 : BitVec 32 := 0#32
  let v272 : BitVec 1 := Scalar.cmpi .slt v270 c0_i32_183
  let c0_i32_184 : BitVec 32 := 0#32
  let v273 : BitVec 1 := Scalar.cmpi .slt v269 c0_i32_184
  let v274 : BitVec 1 := Scalar.xori v272 v273
  let c0_i32_182 : BitVec 32 := 0#32
  let v271 : BitVec 1 := Scalar.cmpi .ne v270 c0_i32_182
  let v275 : BitVec 1 := Scalar.andi v274 v271
  let v276 : BitVec 32 := Scalar.addi v270 v269
  let v277 : BitVec 32 := Scalar.select v275 v276 v270
  let c0_i32_479 : BitVec 32 := 0#32
  let c0_i32_480 : BitVec 32 := 0#32
  ![v277.toNat, 0, 0]
def k0_dev15 (d0 : Dev nD) : Nat :=
  let c0_i32_476 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_178 : BitVec 32 := 2#32
  let v267 : BitVec 32 := Scalar.addi v2 c2_i32_178
  let c8_i32_179 : BitVec 32 := 8#32
  let c0_i32_180 : BitVec 32 := 0#32
  let v268 : BitVec 1 := Scalar.cmpi .eq c8_i32_179 c0_i32_180
  let c1_i32_181 : BitVec 32 := 1#32
  let v269 : BitVec 32 := Scalar.select v268 c1_i32_181 c8_i32_179
  let v270 : BitVec 32 := Scalar.remsi v267 v269
  let c0_i32_183 : BitVec 32 := 0#32
  let v272 : BitVec 1 := Scalar.cmpi .slt v270 c0_i32_183
  let c0_i32_184 : BitVec 32 := 0#32
  let v273 : BitVec 1 := Scalar.cmpi .slt v269 c0_i32_184
  let v274 : BitVec 1 := Scalar.xori v272 v273
  let c0_i32_182 : BitVec 32 := 0#32
  let v271 : BitVec 1 := Scalar.cmpi .ne v270 c0_i32_182
  let v275 : BitVec 1 := Scalar.andi v274 v271
  let v276 : BitVec 32 := Scalar.addi v270 v269
  let v277 : BitVec 32 := Scalar.select v275 v276 v270
  let c1_i32_475 : BitVec 32 := 1#32
  let v589 : BitVec 32 := Scalar.muli v277 c1_i32_475
  let v590 : BitVec 32 := Scalar.addi c0_i32_476 v589
  v590.toNat
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_190 : BitVec 32 := 6#32
  let v281 : BitVec 32 := Scalar.addi v2 c6_i32_190
  let c8_i32_191 : BitVec 32 := 8#32
  let c0_i32_192 : BitVec 32 := 0#32
  let v282 : BitVec 1 := Scalar.cmpi .eq c8_i32_191 c0_i32_192
  let c1_i32_193 : BitVec 32 := 1#32
  let v283 : BitVec 32 := Scalar.select v282 c1_i32_193 c8_i32_191
  let v284 : BitVec 32 := Scalar.remsi v281 v283
  let c0_i32_195 : BitVec 32 := 0#32
  let v286 : BitVec 1 := Scalar.cmpi .slt v284 c0_i32_195
  let c0_i32_196 : BitVec 32 := 0#32
  let v287 : BitVec 1 := Scalar.cmpi .slt v283 c0_i32_196
  let v288 : BitVec 1 := Scalar.xori v286 v287
  let c0_i32_194 : BitVec 32 := 0#32
  let v285 : BitVec 1 := Scalar.cmpi .ne v284 c0_i32_194
  let v289 : BitVec 1 := Scalar.andi v288 v285
  let v290 : BitVec 32 := Scalar.addi v284 v283
  let v291 : BitVec 32 := Scalar.select v289 v290 v284
  let c4_i32_197 : BitVec 32 := 4#32
  let v292 : BitVec 1 := Scalar.cmpi .sge v291 c4_i32_197
  let v293 : BitVec 32 := Scalar.extui v292
  let c0_i32_201 : BitVec 32 := 0#32
  let v294 : BitVec 1 := Scalar.cmpi .ne v293 c0_i32_201
  v294

def k0_off9 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_190 : BitVec 32 := 6#32
  let v281 : BitVec 32 := Scalar.addi v2 c6_i32_190
  let c8_i32_191 : BitVec 32 := 8#32
  let c0_i32_192 : BitVec 32 := 0#32
  let v282 : BitVec 1 := Scalar.cmpi .eq c8_i32_191 c0_i32_192
  let c1_i32_193 : BitVec 32 := 1#32
  let v283 : BitVec 32 := Scalar.select v282 c1_i32_193 c8_i32_191
  let v284 : BitVec 32 := Scalar.remsi v281 v283
  let c0_i32_195 : BitVec 32 := 0#32
  let v286 : BitVec 1 := Scalar.cmpi .slt v284 c0_i32_195
  let c0_i32_196 : BitVec 32 := 0#32
  let v287 : BitVec 1 := Scalar.cmpi .slt v283 c0_i32_196
  let v288 : BitVec 1 := Scalar.xori v286 v287
  let c0_i32_194 : BitVec 32 := 0#32
  let v285 : BitVec 1 := Scalar.cmpi .ne v284 c0_i32_194
  let v289 : BitVec 1 := Scalar.andi v288 v285
  let v290 : BitVec 32 := Scalar.addi v284 v283
  let v291 : BitVec 32 := Scalar.select v289 v290 v284
  let c0_i32_479 : BitVec 32 := 0#32
  let c0_i32_480 : BitVec 32 := 0#32
  ![v291.toNat, 0, 0]
def k0_dev16 (d0 : Dev nD) : Nat :=
  let c0_i32_476 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_190 : BitVec 32 := 6#32
  let v281 : BitVec 32 := Scalar.addi v2 c6_i32_190
  let c8_i32_191 : BitVec 32 := 8#32
  let c0_i32_192 : BitVec 32 := 0#32
  let v282 : BitVec 1 := Scalar.cmpi .eq c8_i32_191 c0_i32_192
  let c1_i32_193 : BitVec 32 := 1#32
  let v283 : BitVec 32 := Scalar.select v282 c1_i32_193 c8_i32_191
  let v284 : BitVec 32 := Scalar.remsi v281 v283
  let c0_i32_195 : BitVec 32 := 0#32
  let v286 : BitVec 1 := Scalar.cmpi .slt v284 c0_i32_195
  let c0_i32_196 : BitVec 32 := 0#32
  let v287 : BitVec 1 := Scalar.cmpi .slt v283 c0_i32_196
  let v288 : BitVec 1 := Scalar.xori v286 v287
  let c0_i32_194 : BitVec 32 := 0#32
  let v285 : BitVec 1 := Scalar.cmpi .ne v284 c0_i32_194
  let v289 : BitVec 1 := Scalar.andi v288 v285
  let v290 : BitVec 32 := Scalar.addi v284 v283
  let v291 : BitVec 32 := Scalar.select v289 v290 v284
  let c1_i32_475 : BitVec 32 := 1#32
  let v589 : BitVec 32 := Scalar.muli v291 c1_i32_475
  let v590 : BitVec 32 := Scalar.addi c0_i32_476 v589
  v590.toNat
def k0_cond10 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_202 : BitVec 32 := 3#32
  let v295 : BitVec 32 := Scalar.addi v2 c3_i32_202
  let c8_i32_203 : BitVec 32 := 8#32
  let c0_i32_204 : BitVec 32 := 0#32
  let v296 : BitVec 1 := Scalar.cmpi .eq c8_i32_203 c0_i32_204
  let c1_i32_205 : BitVec 32 := 1#32
  let v297 : BitVec 32 := Scalar.select v296 c1_i32_205 c8_i32_203
  let v298 : BitVec 32 := Scalar.remsi v295 v297
  let c0_i32_207 : BitVec 32 := 0#32
  let v300 : BitVec 1 := Scalar.cmpi .slt v298 c0_i32_207
  let c0_i32_208 : BitVec 32 := 0#32
  let v301 : BitVec 1 := Scalar.cmpi .slt v297 c0_i32_208
  let v302 : BitVec 1 := Scalar.xori v300 v301
  let c0_i32_206 : BitVec 32 := 0#32
  let v299 : BitVec 1 := Scalar.cmpi .ne v298 c0_i32_206
  let v303 : BitVec 1 := Scalar.andi v302 v299
  let v304 : BitVec 32 := Scalar.addi v298 v297
  let v305 : BitVec 32 := Scalar.select v303 v304 v298
  let c4_i32_209 : BitVec 32 := 4#32
  let v306 : BitVec 1 := Scalar.cmpi .sge v305 c4_i32_209
  let v307 : BitVec 32 := Scalar.extui v306
  let c0_i32_213 : BitVec 32 := 0#32
  let v308 : BitVec 1 := Scalar.cmpi .ne v307 c0_i32_213
  v308

def k0_off10 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_202 : BitVec 32 := 3#32
  let v295 : BitVec 32 := Scalar.addi v2 c3_i32_202
  let c8_i32_203 : BitVec 32 := 8#32
  let c0_i32_204 : BitVec 32 := 0#32
  let v296 : BitVec 1 := Scalar.cmpi .eq c8_i32_203 c0_i32_204
  let c1_i32_205 : BitVec 32 := 1#32
  let v297 : BitVec 32 := Scalar.select v296 c1_i32_205 c8_i32_203
  let v298 : BitVec 32 := Scalar.remsi v295 v297
  let c0_i32_207 : BitVec 32 := 0#32
  let v300 : BitVec 1 := Scalar.cmpi .slt v298 c0_i32_207
  let c0_i32_208 : BitVec 32 := 0#32
  let v301 : BitVec 1 := Scalar.cmpi .slt v297 c0_i32_208
  let v302 : BitVec 1 := Scalar.xori v300 v301
  let c0_i32_206 : BitVec 32 := 0#32
  let v299 : BitVec 1 := Scalar.cmpi .ne v298 c0_i32_206
  let v303 : BitVec 1 := Scalar.andi v302 v299
  let v304 : BitVec 32 := Scalar.addi v298 v297
  let v305 : BitVec 32 := Scalar.select v303 v304 v298
  let c0_i32_479 : BitVec 32 := 0#32
  let c0_i32_480 : BitVec 32 := 0#32
  ![v305.toNat, 0, 0]
def k0_dev17 (d0 : Dev nD) : Nat :=
  let c0_i32_476 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_202 : BitVec 32 := 3#32
  let v295 : BitVec 32 := Scalar.addi v2 c3_i32_202
  let c8_i32_203 : BitVec 32 := 8#32
  let c0_i32_204 : BitVec 32 := 0#32
  let v296 : BitVec 1 := Scalar.cmpi .eq c8_i32_203 c0_i32_204
  let c1_i32_205 : BitVec 32 := 1#32
  let v297 : BitVec 32 := Scalar.select v296 c1_i32_205 c8_i32_203
  let v298 : BitVec 32 := Scalar.remsi v295 v297
  let c0_i32_207 : BitVec 32 := 0#32
  let v300 : BitVec 1 := Scalar.cmpi .slt v298 c0_i32_207
  let c0_i32_208 : BitVec 32 := 0#32
  let v301 : BitVec 1 := Scalar.cmpi .slt v297 c0_i32_208
  let v302 : BitVec 1 := Scalar.xori v300 v301
  let c0_i32_206 : BitVec 32 := 0#32
  let v299 : BitVec 1 := Scalar.cmpi .ne v298 c0_i32_206
  let v303 : BitVec 1 := Scalar.andi v302 v299
  let v304 : BitVec 32 := Scalar.addi v298 v297
  let v305 : BitVec 32 := Scalar.select v303 v304 v298
  let c1_i32_475 : BitVec 32 := 1#32
  let v589 : BitVec 32 := Scalar.muli v305 c1_i32_475
  let v590 : BitVec 32 := Scalar.addi c0_i32_476 v589
  v590.toNat
def k0_cond11 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_214 : BitVec 32 := 5#32
  let v309 : BitVec 32 := Scalar.addi v2 c5_i32_214
  let c8_i32_215 : BitVec 32 := 8#32
  let c0_i32_216 : BitVec 32 := 0#32
  let v310 : BitVec 1 := Scalar.cmpi .eq c8_i32_215 c0_i32_216
  let c1_i32_217 : BitVec 32 := 1#32
  let v311 : BitVec 32 := Scalar.select v310 c1_i32_217 c8_i32_215
  let v312 : BitVec 32 := Scalar.remsi v309 v311
  let c0_i32_219 : BitVec 32 := 0#32
  let v314 : BitVec 1 := Scalar.cmpi .slt v312 c0_i32_219
  let c0_i32_220 : BitVec 32 := 0#32
  let v315 : BitVec 1 := Scalar.cmpi .slt v311 c0_i32_220
  let v316 : BitVec 1 := Scalar.xori v314 v315
  let c0_i32_218 : BitVec 32 := 0#32
  let v313 : BitVec 1 := Scalar.cmpi .ne v312 c0_i32_218
  let v317 : BitVec 1 := Scalar.andi v316 v313
  let v318 : BitVec 32 := Scalar.addi v312 v311
  let v319 : BitVec 32 := Scalar.select v317 v318 v312
  let c4_i32_221 : BitVec 32 := 4#32
  let v320 : BitVec 1 := Scalar.cmpi .sge v319 c4_i32_221
  let v321 : BitVec 32 := Scalar.extui v320
  let c0_i32_225 : BitVec 32 := 0#32
  let v322 : BitVec 1 := Scalar.cmpi .ne v321 c0_i32_225
  v322

def k0_off11 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_214 : BitVec 32 := 5#32
  let v309 : BitVec 32 := Scalar.addi v2 c5_i32_214
  let c8_i32_215 : BitVec 32 := 8#32
  let c0_i32_216 : BitVec 32 := 0#32
  let v310 : BitVec 1 := Scalar.cmpi .eq c8_i32_215 c0_i32_216
  let c1_i32_217 : BitVec 32 := 1#32
  let v311 : BitVec 32 := Scalar.select v310 c1_i32_217 c8_i32_215
  let v312 : BitVec 32 := Scalar.remsi v309 v311
  let c0_i32_219 : BitVec 32 := 0#32
  let v314 : BitVec 1 := Scalar.cmpi .slt v312 c0_i32_219
  let c0_i32_220 : BitVec 32 := 0#32
  let v315 : BitVec 1 := Scalar.cmpi .slt v311 c0_i32_220
  let v316 : BitVec 1 := Scalar.xori v314 v315
  let c0_i32_218 : BitVec 32 := 0#32
  let v313 : BitVec 1 := Scalar.cmpi .ne v312 c0_i32_218
  let v317 : BitVec 1 := Scalar.andi v316 v313
  let v318 : BitVec 32 := Scalar.addi v312 v311
  let v319 : BitVec 32 := Scalar.select v317 v318 v312
  let c0_i32_479 : BitVec 32 := 0#32
  let c0_i32_480 : BitVec 32 := 0#32
  ![v319.toNat, 0, 0]
def k0_dev18 (d0 : Dev nD) : Nat :=
  let c0_i32_476 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_214 : BitVec 32 := 5#32
  let v309 : BitVec 32 := Scalar.addi v2 c5_i32_214
  let c8_i32_215 : BitVec 32 := 8#32
  let c0_i32_216 : BitVec 32 := 0#32
  let v310 : BitVec 1 := Scalar.cmpi .eq c8_i32_215 c0_i32_216
  let c1_i32_217 : BitVec 32 := 1#32
  let v311 : BitVec 32 := Scalar.select v310 c1_i32_217 c8_i32_215
  let v312 : BitVec 32 := Scalar.remsi v309 v311
  let c0_i32_219 : BitVec 32 := 0#32
  let v314 : BitVec 1 := Scalar.cmpi .slt v312 c0_i32_219
  let c0_i32_220 : BitVec 32 := 0#32
  let v315 : BitVec 1 := Scalar.cmpi .slt v311 c0_i32_220
  let v316 : BitVec 1 := Scalar.xori v314 v315
  let c0_i32_218 : BitVec 32 := 0#32
  let v313 : BitVec 1 := Scalar.cmpi .ne v312 c0_i32_218
  let v317 : BitVec 1 := Scalar.andi v316 v313
  let v318 : BitVec 32 := Scalar.addi v312 v311
  let v319 : BitVec 32 := Scalar.select v317 v318 v312
  let c1_i32_475 : BitVec 32 := 1#32
  let v589 : BitVec 32 := Scalar.muli v319 c1_i32_475
  let v590 : BitVec 32 := Scalar.addi c0_i32_476 v589
  v590.toNat
def k0_cond12 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_226 : BitVec 32 := 7#32
  let v323 : BitVec 32 := Scalar.addi v2 c7_i32_226
  let c8_i32_227 : BitVec 32 := 8#32
  let c0_i32_228 : BitVec 32 := 0#32
  let v324 : BitVec 1 := Scalar.cmpi .eq c8_i32_227 c0_i32_228
  let c1_i32_229 : BitVec 32 := 1#32
  let v325 : BitVec 32 := Scalar.select v324 c1_i32_229 c8_i32_227
  let v326 : BitVec 32 := Scalar.remsi v323 v325
  let c0_i32_231 : BitVec 32 := 0#32
  let v328 : BitVec 1 := Scalar.cmpi .slt v326 c0_i32_231
  let c0_i32_232 : BitVec 32 := 0#32
  let v329 : BitVec 1 := Scalar.cmpi .slt v325 c0_i32_232
  let v330 : BitVec 1 := Scalar.xori v328 v329
  let c0_i32_230 : BitVec 32 := 0#32
  let v327 : BitVec 1 := Scalar.cmpi .ne v326 c0_i32_230
  let v331 : BitVec 1 := Scalar.andi v330 v327
  let v332 : BitVec 32 := Scalar.addi v326 v325
  let v333 : BitVec 32 := Scalar.select v331 v332 v326
  let c4_i32_233 : BitVec 32 := 4#32
  let v334 : BitVec 1 := Scalar.cmpi .sge v333 c4_i32_233
  let v335 : BitVec 32 := Scalar.extui v334
  let c0_i32_237 : BitVec 32 := 0#32
  let v336 : BitVec 1 := Scalar.cmpi .ne v335 c0_i32_237
  v336

def k0_off12 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_226 : BitVec 32 := 7#32
  let v323 : BitVec 32 := Scalar.addi v2 c7_i32_226
  let c8_i32_227 : BitVec 32 := 8#32
  let c0_i32_228 : BitVec 32 := 0#32
  let v324 : BitVec 1 := Scalar.cmpi .eq c8_i32_227 c0_i32_228
  let c1_i32_229 : BitVec 32 := 1#32
  let v325 : BitVec 32 := Scalar.select v324 c1_i32_229 c8_i32_227
  let v326 : BitVec 32 := Scalar.remsi v323 v325
  let c0_i32_231 : BitVec 32 := 0#32
  let v328 : BitVec 1 := Scalar.cmpi .slt v326 c0_i32_231
  let c0_i32_232 : BitVec 32 := 0#32
  let v329 : BitVec 1 := Scalar.cmpi .slt v325 c0_i32_232
  let v330 : BitVec 1 := Scalar.xori v328 v329
  let c0_i32_230 : BitVec 32 := 0#32
  let v327 : BitVec 1 := Scalar.cmpi .ne v326 c0_i32_230
  let v331 : BitVec 1 := Scalar.andi v330 v327
  let v332 : BitVec 32 := Scalar.addi v326 v325
  let v333 : BitVec 32 := Scalar.select v331 v332 v326
  let c0_i32_479 : BitVec 32 := 0#32
  let c0_i32_480 : BitVec 32 := 0#32
  ![v333.toNat, 0, 0]
def k0_dev19 (d0 : Dev nD) : Nat :=
  let c0_i32_476 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_226 : BitVec 32 := 7#32
  let v323 : BitVec 32 := Scalar.addi v2 c7_i32_226
  let c8_i32_227 : BitVec 32 := 8#32
  let c0_i32_228 : BitVec 32 := 0#32
  let v324 : BitVec 1 := Scalar.cmpi .eq c8_i32_227 c0_i32_228
  let c1_i32_229 : BitVec 32 := 1#32
  let v325 : BitVec 32 := Scalar.select v324 c1_i32_229 c8_i32_227
  let v326 : BitVec 32 := Scalar.remsi v323 v325
  let c0_i32_231 : BitVec 32 := 0#32
  let v328 : BitVec 1 := Scalar.cmpi .slt v326 c0_i32_231
  let c0_i32_232 : BitVec 32 := 0#32
  let v329 : BitVec 1 := Scalar.cmpi .slt v325 c0_i32_232
  let v330 : BitVec 1 := Scalar.xori v328 v329
  let c0_i32_230 : BitVec 32 := 0#32
  let v327 : BitVec 1 := Scalar.cmpi .ne v326 c0_i32_230
  let v331 : BitVec 1 := Scalar.andi v330 v327
  let v332 : BitVec 32 := Scalar.addi v326 v325
  let v333 : BitVec 32 := Scalar.select v331 v332 v326
  let c1_i32_475 : BitVec 32 := 1#32
  let v589 : BitVec 32 := Scalar.muli v333 c1_i32_475
  let v590 : BitVec 32 := Scalar.addi c0_i32_476 v589
  v590.toNat
def k0_cond13 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_238 : BitVec 32 := 1#32
  let v337 : BitVec 32 := Scalar.addi v2 c1_i32_238
  let c8_i32_239 : BitVec 32 := 8#32
  let c0_i32_240 : BitVec 32 := 0#32
  let v338 : BitVec 1 := Scalar.cmpi .eq c8_i32_239 c0_i32_240
  let c1_i32_241 : BitVec 32 := 1#32
  let v339 : BitVec 32 := Scalar.select v338 c1_i32_241 c8_i32_239
  let v340 : BitVec 32 := Scalar.remsi v337 v339
  let c0_i32_243 : BitVec 32 := 0#32
  let v342 : BitVec 1 := Scalar.cmpi .slt v340 c0_i32_243
  let c0_i32_244 : BitVec 32 := 0#32
  let v343 : BitVec 1 := Scalar.cmpi .slt v339 c0_i32_244
  let v344 : BitVec 1 := Scalar.xori v342 v343
  let c0_i32_242 : BitVec 32 := 0#32
  let v341 : BitVec 1 := Scalar.cmpi .ne v340 c0_i32_242
  let v345 : BitVec 1 := Scalar.andi v344 v341
  let v346 : BitVec 32 := Scalar.addi v340 v339
  let v347 : BitVec 32 := Scalar.select v345 v346 v340
  let c4_i32_245 : BitVec 32 := 4#32
  let v348 : BitVec 1 := Scalar.cmpi .sge v347 c4_i32_245
  let v349 : BitVec 32 := Scalar.extui v348
  let c0_i32_249 : BitVec 32 := 0#32
  let v350 : BitVec 1 := Scalar.cmpi .ne v349 c0_i32_249
  v350

def k0_off13 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_238 : BitVec 32 := 1#32
  let v337 : BitVec 32 := Scalar.addi v2 c1_i32_238
  let c8_i32_239 : BitVec 32 := 8#32
  let c0_i32_240 : BitVec 32 := 0#32
  let v338 : BitVec 1 := Scalar.cmpi .eq c8_i32_239 c0_i32_240
  let c1_i32_241 : BitVec 32 := 1#32
  let v339 : BitVec 32 := Scalar.select v338 c1_i32_241 c8_i32_239
  let v340 : BitVec 32 := Scalar.remsi v337 v339
  let c0_i32_243 : BitVec 32 := 0#32
  let v342 : BitVec 1 := Scalar.cmpi .slt v340 c0_i32_243
  let c0_i32_244 : BitVec 32 := 0#32
  let v343 : BitVec 1 := Scalar.cmpi .slt v339 c0_i32_244
  let v344 : BitVec 1 := Scalar.xori v342 v343
  let c0_i32_242 : BitVec 32 := 0#32
  let v341 : BitVec 1 := Scalar.cmpi .ne v340 c0_i32_242
  let v345 : BitVec 1 := Scalar.andi v344 v341
  let v346 : BitVec 32 := Scalar.addi v340 v339
  let v347 : BitVec 32 := Scalar.select v345 v346 v340
  let c0_i32_479 : BitVec 32 := 0#32
  let c0_i32_480 : BitVec 32 := 0#32
  ![v347.toNat, 0, 0]
def k0_dev20 (d0 : Dev nD) : Nat :=
  let c0_i32_476 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_238 : BitVec 32 := 1#32
  let v337 : BitVec 32 := Scalar.addi v2 c1_i32_238
  let c8_i32_239 : BitVec 32 := 8#32
  let c0_i32_240 : BitVec 32 := 0#32
  let v338 : BitVec 1 := Scalar.cmpi .eq c8_i32_239 c0_i32_240
  let c1_i32_241 : BitVec 32 := 1#32
  let v339 : BitVec 32 := Scalar.select v338 c1_i32_241 c8_i32_239
  let v340 : BitVec 32 := Scalar.remsi v337 v339
  let c0_i32_243 : BitVec 32 := 0#32
  let v342 : BitVec 1 := Scalar.cmpi .slt v340 c0_i32_243
  let c0_i32_244 : BitVec 32 := 0#32
  let v343 : BitVec 1 := Scalar.cmpi .slt v339 c0_i32_244
  let v344 : BitVec 1 := Scalar.xori v342 v343
  let c0_i32_242 : BitVec 32 := 0#32
  let v341 : BitVec 1 := Scalar.cmpi .ne v340 c0_i32_242
  let v345 : BitVec 1 := Scalar.andi v344 v341
  let v346 : BitVec 32 := Scalar.addi v340 v339
  let v347 : BitVec 32 := Scalar.select v345 v346 v340
  let c1_i32_475 : BitVec 32 := 1#32
  let v589 : BitVec 32 := Scalar.muli v347 c1_i32_475
  let v590 : BitVec 32 := Scalar.addi c0_i32_476 v589
  v590.toNat
def k0_cond14 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_250 : BitVec 32 := 4#32
  let v351 : BitVec 32 := Scalar.addi v2 c4_i32_250
  let c8_i32_251 : BitVec 32 := 8#32
  let c0_i32_252 : BitVec 32 := 0#32
  let v352 : BitVec 1 := Scalar.cmpi .eq c8_i32_251 c0_i32_252
  let c1_i32_253 : BitVec 32 := 1#32
  let v353 : BitVec 32 := Scalar.select v352 c1_i32_253 c8_i32_251
  let v354 : BitVec 32 := Scalar.remsi v351 v353
  let c0_i32_255 : BitVec 32 := 0#32
  let v356 : BitVec 1 := Scalar.cmpi .slt v354 c0_i32_255
  let c0_i32_256 : BitVec 32 := 0#32
  let v357 : BitVec 1 := Scalar.cmpi .slt v353 c0_i32_256
  let v358 : BitVec 1 := Scalar.xori v356 v357
  let c0_i32_254 : BitVec 32 := 0#32
  let v355 : BitVec 1 := Scalar.cmpi .ne v354 c0_i32_254
  let v359 : BitVec 1 := Scalar.andi v358 v355
  let v360 : BitVec 32 := Scalar.addi v354 v353
  let v361 : BitVec 32 := Scalar.select v359 v360 v354
  let c4_i32_257 : BitVec 32 := 4#32
  let v362 : BitVec 1 := Scalar.cmpi .sge v361 c4_i32_257
  let v363 : BitVec 32 := Scalar.extui v362
  let c0_i32_261 : BitVec 32 := 0#32
  let v364 : BitVec 1 := Scalar.cmpi .ne v363 c0_i32_261
  v364

def k0_off14 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_250 : BitVec 32 := 4#32
  let v351 : BitVec 32 := Scalar.addi v2 c4_i32_250
  let c8_i32_251 : BitVec 32 := 8#32
  let c0_i32_252 : BitVec 32 := 0#32
  let v352 : BitVec 1 := Scalar.cmpi .eq c8_i32_251 c0_i32_252
  let c1_i32_253 : BitVec 32 := 1#32
  let v353 : BitVec 32 := Scalar.select v352 c1_i32_253 c8_i32_251
  let v354 : BitVec 32 := Scalar.remsi v351 v353
  let c0_i32_255 : BitVec 32 := 0#32
  let v356 : BitVec 1 := Scalar.cmpi .slt v354 c0_i32_255
  let c0_i32_256 : BitVec 32 := 0#32
  let v357 : BitVec 1 := Scalar.cmpi .slt v353 c0_i32_256
  let v358 : BitVec 1 := Scalar.xori v356 v357
  let c0_i32_254 : BitVec 32 := 0#32
  let v355 : BitVec 1 := Scalar.cmpi .ne v354 c0_i32_254
  let v359 : BitVec 1 := Scalar.andi v358 v355
  let v360 : BitVec 32 := Scalar.addi v354 v353
  let v361 : BitVec 32 := Scalar.select v359 v360 v354
  let c0_i32_479 : BitVec 32 := 0#32
  let c0_i32_480 : BitVec 32 := 0#32
  ![v361.toNat, 0, 0]
def k0_dev21 (d0 : Dev nD) : Nat :=
  let c0_i32_476 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_250 : BitVec 32 := 4#32
  let v351 : BitVec 32 := Scalar.addi v2 c4_i32_250
  let c8_i32_251 : BitVec 32 := 8#32
  let c0_i32_252 : BitVec 32 := 0#32
  let v352 : BitVec 1 := Scalar.cmpi .eq c8_i32_251 c0_i32_252
  let c1_i32_253 : BitVec 32 := 1#32
  let v353 : BitVec 32 := Scalar.select v352 c1_i32_253 c8_i32_251
  let v354 : BitVec 32 := Scalar.remsi v351 v353
  let c0_i32_255 : BitVec 32 := 0#32
  let v356 : BitVec 1 := Scalar.cmpi .slt v354 c0_i32_255
  let c0_i32_256 : BitVec 32 := 0#32
  let v357 : BitVec 1 := Scalar.cmpi .slt v353 c0_i32_256
  let v358 : BitVec 1 := Scalar.xori v356 v357
  let c0_i32_254 : BitVec 32 := 0#32
  let v355 : BitVec 1 := Scalar.cmpi .ne v354 c0_i32_254
  let v359 : BitVec 1 := Scalar.andi v358 v355
  let v360 : BitVec 32 := Scalar.addi v354 v353
  let v361 : BitVec 32 := Scalar.select v359 v360 v354
  let c1_i32_475 : BitVec 32 := 1#32
  let v589 : BitVec 32 := Scalar.muli v361 c1_i32_475
  let v590 : BitVec 32 := Scalar.addi c0_i32_476 v589
  v590.toNat
def k0_off15 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v365 : Index := Scalar.indexCast v2
  let c0_262 : Index := 0#32
  let c0_263 : Index := 0#32
  ![v365.toNat, 0, 0]
def k0_off16 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32 : BitVec 32 := 128#32
  let v369 : BitVec 32 := Scalar.muli v2 c128_i32
  let v370 : Index := Scalar.indexCast v369
  let c0_264 : Index := 0#32
  ![v370.toNat, 0]
def k0_off17 (d0 : Dev nD) (c1_i32_265 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v372 : BitVec 32 := Scalar.subi v2 c1_i32_265
  let c8_i32_266 : BitVec 32 := 8#32
  let c0_i32_267 : BitVec 32 := 0#32
  let v373 : BitVec 1 := Scalar.cmpi .eq c8_i32_266 c0_i32_267
  let c1_i32_268 : BitVec 32 := 1#32
  let v374 : BitVec 32 := Scalar.select v373 c1_i32_268 c8_i32_266
  let v375 : BitVec 32 := Scalar.remsi v372 v374
  let c0_i32_270 : BitVec 32 := 0#32
  let v377 : BitVec 1 := Scalar.cmpi .slt v375 c0_i32_270
  let c0_i32_271 : BitVec 32 := 0#32
  let v378 : BitVec 1 := Scalar.cmpi .slt v374 c0_i32_271
  let v379 : BitVec 1 := Scalar.xori v377 v378
  let c0_i32_269 : BitVec 32 := 0#32
  let v376 : BitVec 1 := Scalar.cmpi .ne v375 c0_i32_269
  let v380 : BitVec 1 := Scalar.andi v379 v376
  let v381 : BitVec 32 := Scalar.addi v375 v374
  let v382 : BitVec 32 := Scalar.select v380 v381 v375
  let c128_i32_285 : BitVec 32 := 128#32
  let v394 : BitVec 32 := Scalar.muli v382 c128_i32_285
  let v395 : Index := Scalar.indexCast v394
  let c0_286 : Index := 0#32
  ![v395.toNat, 0]
def k0_off18 (d0 : Dev nD) (c2_i32_80 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v133 : BitVec 32 := Scalar.addi v2 c2_i32_80
  let c8_i32_81 : BitVec 32 := 8#32
  let c0_i32_82 : BitVec 32 := 0#32
  let v134 : BitVec 1 := Scalar.cmpi .eq c8_i32_81 c0_i32_82
  let c1_i32_83 : BitVec 32 := 1#32
  let v135 : BitVec 32 := Scalar.select v134 c1_i32_83 c8_i32_81
  let v136 : BitVec 32 := Scalar.remsi v133 v135
  let c0_i32_85 : BitVec 32 := 0#32
  let v138 : BitVec 1 := Scalar.cmpi .slt v136 c0_i32_85
  let c0_i32_86 : BitVec 32 := 0#32
  let v139 : BitVec 1 := Scalar.cmpi .slt v135 c0_i32_86
  let v140 : BitVec 1 := Scalar.xori v138 v139
  let c0_i32_84 : BitVec 32 := 0#32
  let v137 : BitVec 1 := Scalar.cmpi .ne v136 c0_i32_84
  let v141 : BitVec 1 := Scalar.andi v140 v137
  let v142 : BitVec 32 := Scalar.addi v136 v135
  let v143 : BitVec 32 := Scalar.select v141 v142 v136
  let c0_i32_423 : BitVec 32 := 0#32
  let c0_i32_424 : BitVec 32 := 0#32
  ![v143.toNat, 0, 0]
abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S_, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S_, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S_, .f32⟩
  | .hbm, ⟨17, _⟩ => ⟨S1024x1024, .f32⟩
  | .hbm, ⟨18, _⟩ => ⟨S1024x1024, .f32⟩
  | .hbm, ⟨19, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Run.KernelIdeal.Mesh.lean ====
/-
# The ring of eight devices, the printed index chains, the rows of the two exchange buffers

Device `c` sends its block for device `c + o` (modulo 8) under the offset `o`, and receives under `o` what device
`c - o` sent it. This module names these steps around the ring, gives every printed device number, offset and
condition its closed form, and cuts the exchange buffers into their eight rows.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## Steps around the ring -/

set_option backward.proofsInPublic true in
/-- The device `o` places after `c`. -/
def ahead (c : Dev nD) (o : Fin 8) : Dev nD := ⟨(c.val + o.val) % 8, Nat.mod_lt _ (by decide)⟩
set_option backward.proofsInPublic true in
/-- The device `o` places before `c`. -/
def back (c : Dev nD) (o : Fin 8) : Dev nD := ⟨(c.val + (8 - o.val)) % 8, Nat.mod_lt _ (by decide)⟩
set_option backward.proofsInPublic true in
/-- The offset that undoes `o`. -/
def opp (o : Fin 8) : Fin 8 := ⟨(8 - o.val) % 8, Nat.mod_lt _ (by decide)⟩

theorem back_ahead (c : Dev nD) (o : Fin 8) : back (ahead c o) o = c := by revert c o; decide +kernel
theorem ahead_back (c : Dev nD) (o : Fin 8) : ahead (back c o) o = c := by revert c o; decide +kernel
theorem ahead_opp (c : Dev nD) (o : Fin 8) : ahead (ahead c o) (opp o) = c := by revert c o; decide +kernel
theorem opp_ahead (c : Dev nD) (o : Fin 8) : ahead (ahead c (opp o)) o = c := by revert c o; decide +kernel
theorem opp_opp (o : Fin 8) : opp (opp o) = o := by revert o; decide +kernel
theorem opp_ne (o : Fin 8) (h : o ≠ 0) : opp o ≠ 0 := by revert o; decide +kernel
theorem ahead_zero (c : Dev nD) : ahead c 0 = c := by revert c; decide +kernel
theorem ahead_inj (c : Dev nD) : Function.Injective (ahead c) := by
  intro a b h; revert c a b; decide +kernel
theorem ahead_surj (c d : Dev nD) : ∃ o, ahead c o = d := by revert c d; decide +kernel

/-- At a fixed device, the offsets are the devices they lead to. -/
def aheadAt (c : Dev nD) : Fin 8 ≃ Dev nD := Equiv.ofBijective (ahead c) ⟨ahead_inj c, ahead_surj c⟩
/-- At a fixed offset, a step around the ring permutes the devices. -/
def stepBy (o : Fin 8) : Dev nD ≃ Dev nD := ⟨fun c => ahead c o, fun c => back c o, fun c => back_ahead c o, fun c => ahead_back c o⟩

theorem aheadAt_apply (c : Dev nD) (o : Fin 8) : aheadAt c o = ahead c o := rfl
theorem stepBy_apply (o : Fin 8) (c : Dev nD) : stepBy o c = ahead c o := rfl

/-! ## The printed device numbers, conditions and offsets in closed form -/

theorem sig1 (c : Dev nD) : (⟨k0_dev1 c, k0_dev1_lt c⟩ : Dev nD) = ahead c 1 := by revert c; decide +kernel
theorem sig2 (c : Dev nD) : (⟨k0_dev2 c, k0_dev2_lt c⟩ : Dev nD) = ahead c 2 := by revert c; decide +kernel
theorem sig3 (c : Dev nD) : (⟨k0_dev3 c, k0_dev3_lt c⟩ : Dev nD) = ahead c 3 := by revert c; decide +kernel
theorem sig4 (c : Dev nD) : (⟨k0_dev4 c, k0_dev4_lt c⟩ : Dev nD) = ahead c 4 := by revert c; decide +kernel
theorem sig5 (c : Dev nD) : (⟨k0_dev5 c, k0_dev5_lt c⟩ : Dev nD) = ahead c 5 := by revert c; decide +kernel
theorem sig6 (c : Dev nD) : (⟨k0_dev6 c, k0_dev6_lt c⟩ : Dev nD) = ahead c 6 := by revert c; decide +kernel
theorem sig7 (c : Dev nD) : (⟨k0_dev7 c, k0_dev7_lt c⟩ : Dev nD) = ahead c 7 := by revert c; decide +kernel

/-- In the first round of transfers, the one at offset `o` runs when its destination is below 4. -/
theorem early2 (c : Dev nD) : k0_cond1 c = 1#1 ↔ (ahead c 2).val < 4 := by revert c; decide +kernel
theorem early6 (c : Dev nD) : k0_cond2 c = 1#1 ↔ (ahead c 6).val < 4 := by revert c; decide +kernel
theorem early3 (c : Dev nD) : k0_cond3 c = 1#1 ↔ (ahead c 3).val < 4 := by revert c; decide +kernel
theorem early5 (c : Dev nD) : k0_cond4 c = 1#1 ↔ (ahead c 5).val < 4 := by revert c; decide +kernel
theorem early7 (c : Dev nD) : k0_cond5 c = 1#1 ↔ (ahead c 7).val < 4 := by revert c; decide +kernel
theorem early1 (c : Dev nD) : k0_cond6 c = 1#1 ↔ (ahead c 1).val < 4 := by revert c; decide +kernel
theorem early4 (c : Dev nD) : k0_cond7 c = 1#1 ↔ (ahead c 4).val < 4 := by revert c; decide +kernel
/-- In the second round, when it is not. -/
theorem late2 (c : Dev nD) : k0_cond8 c = 1#1 ↔ ¬ (ahead c 2).val < 4 := by revert c; decide +kernel
theorem late6 (c : Dev nD) : k0_cond9 c = 1#1 ↔ ¬ (ahead c 6).val < 4 := by revert c; decide +kernel
theorem late3 (c : Dev nD) : k0_cond10 c = 1#1 ↔ ¬ (ahead c 3).val < 4 := by revert c; decide +kernel
theorem late5 (c : Dev nD) : k0_cond11 c = 1#1 ↔ ¬ (ahead c 5).val < 4 := by revert c; decide +kernel
theorem late7 (c : Dev nD) : k0_cond12 c = 1#1 ↔ ¬ (ahead c 7).val < 4 := by revert c; decide +kernel
theorem late1 (c : Dev nD) : k0_cond13 c = 1#1 ↔ ¬ (ahead c 1).val < 4 := by revert c; decide +kernel
theorem late4 (c : Dev nD) : k0_cond14 c = 1#1 ↔ ¬ (ahead c 4).val < 4 := by revert c; decide +kernel

theorem edev2 (c : Dev nD) : k0_dev8 c = (ahead c 2).val := by revert c; decide +kernel
theorem edev6 (c : Dev nD) : k0_dev9 c = (ahead c 6).val := by revert c; decide +kernel
theorem edev3 (c : Dev nD) : k0_dev10 c = (ahead c 3).val := by revert c; decide +kernel
theorem edev5 (c : Dev nD) : k0_dev11 c = (ahead c 5).val := by revert c; decide +kernel
theorem edev7 (c : Dev nD) : k0_dev12 c = (ahead c 7).val := by revert c; decide +kernel
theorem edev1 (c : Dev nD) : k0_dev13 c = (ahead c 1).val := by revert c; decide +kernel
theorem edev4 (c : Dev nD) : k0_dev14 c = (ahead c 4).val := by revert c; decide +kernel
theorem ldev2 (c : Dev nD) : k0_dev15 c = (ahead c 2).val := by revert c; decide +kernel
theorem ldev6 (c : Dev nD) : k0_dev16 c = (ahead c 6).val := by revert c; decide +kernel
theorem ldev3 (c : Dev nD) : k0_dev17 c = (ahead c 3).val := by revert c; decide +kernel
theorem ldev5 (c : Dev nD) : k0_dev18 c = (ahead c 5).val := by revert c; decide +kernel
theorem ldev7 (c : Dev nD) : k0_dev19 c = (ahead c 7).val := by revert c; decide +kernel
theorem ldev1 (c : Dev nD) : k0_dev20 c = (ahead c 1).val := by revert c; decide +kernel
theorem ldev4 (c : Dev nD) : k0_dev21 c = (ahead c 4).val := by revert c; decide +kernel

/-- Where row `d` of an exchange buffer begins. -/
abbrev rowOff (d : Fin 8) : Fin 3 → ℕ := ![d.val, 0, 0]
/-- Where the block of source `s` begins in the result. -/
abbrev outOff (s : Fin 8) : Fin 2 → ℕ := ![128 * s.val, 0]

theorem eoff2 (c : Dev nD) : k0_off1 c = rowOff (ahead c 2) := by revert c; decide +kernel
theorem eoff6 (c : Dev nD) : k0_off2 c = rowOff (ahead c 6) := by revert c; decide +kernel
theorem eoff3 (c : Dev nD) : k0_off3 c = rowOff (ahead c 3) := by revert c; decide +kernel
theorem eoff5 (c : Dev nD) : k0_off4 c = rowOff (ahead c 5) := by revert c; decide +kernel
theorem eoff7 (c : Dev nD) : k0_off5 c = rowOff (ahead c 7) := by revert c; decide +kernel
theorem eoff1 (c : Dev nD) : k0_off6 c = rowOff (ahead c 1) := by revert c; decide +kernel
theorem eoff4 (c : Dev nD) : k0_off7 c = rowOff (ahead c 4) := by revert c; decide +kernel
theorem loff2 (c : Dev nD) : k0_off8 c = rowOff (ahead c 2) := by revert c; decide +kernel
theorem loff6 (c : Dev nD) : k0_off9 c = rowOff (ahead c 6) := by revert c; decide +kernel
theorem loff3 (c : Dev nD) : k0_off10 c = rowOff (ahead c 3) := by revert c; decide +kernel
theorem loff5 (c : Dev nD) : k0_off11 c = rowOff (ahead c 5) := by revert c; decide +kernel
theorem loff7 (c : Dev nD) : k0_off12 c = rowOff (ahead c 7) := by revert c; decide +kernel
theorem loff1 (c : Dev nD) : k0_off13 c = rowOff (ahead c 1) := by revert c; decide +kernel
theorem loff4 (c : Dev nD) : k0_off14 c = rowOff (ahead c 4) := by revert c; decide +kernel

theorem off17_1 (c : Dev nD) : k0_off17 c 1#32 = outOff (back c 1) := by revert c; decide +kernel
theorem off17_2 (c : Dev nD) : k0_off17 c 2#32 = outOff (back c 2) := by revert c; decide +kernel
theorem off17_3 (c : Dev nD) : k0_off17 c 3#32 = outOff (back c 3) := by revert c; decide +kernel
theorem off17_4 (c : Dev nD) : k0_off17 c 4#32 = outOff (back c 4) := by revert c; decide +kernel
theorem off17_5 (c : Dev nD) : k0_off17 c 5#32 = outOff (back c 5) := by revert c; decide +kernel
theorem off17_6 (c : Dev nD) : k0_off17 c 6#32 = outOff (back c 6) := by revert c; decide +kernel
theorem off17_7 (c : Dev nD) : k0_off17 c 7#32 = outOff (back c 7) := by revert c; decide +kernel

/-- A device and the seven before it are all eight. -/
theorem sources_all (c : Dev nD) :
    insert (back c 7) (insert (back c 6) (insert (back c 5) (insert (back c 4) (insert (back c 3) (insert (back c 2)
      (insert (back c 1) (insert c (∅ : Finset (Fin 8))))))))) = Finset.univ := by revert c; decide +kernel

/-! ## The buffers and their rows -/

abbrev xM : Memref sig .tc .vmem S128x1024 .f32 := Memref.whole cc0_stg0_0
abbrev wM : Memref sig .tc .vmem S1024x1024 .f32 := Memref.whole cc0_stg1_0
abbrev oM : Memref sig .tc .vmem S1024x128 .f32 := Memref.whole cc0_stg2_0
abbrev cM : Memref sig .tc .vmem S8x128x128 .bf16 := Memref.whole cc0_scratch0
abbrev rM : Memref sig .tc .vmem S8x128x128 .bf16 := Memref.whole cc0_scratch1

theorem rowInb (d : Fin 8) : ∀ a, rowOff d a + S1x128x128.size a ≤ S8x128x128.size a := by revert d; decide +kernel
theorem outInb (s : Fin 8) : ∀ a, outOff s a + S128x128.size a ≤ S1024x128.size a := by revert s; decide +kernel

/-- Row `d` of an exchange buffer; -/
abbrev rowRect (d : Fin 8) : Rect S8x128x128 := Rect.unit (s := S8x128x128) (rowOff d) S1x128x128.size (rowInb d)
/-- the block of source `s` in the result. -/
abbrev outRect (s : Fin 8) : Rect S1024x128 := Rect.unit (s := S1024x128) (outOff s) S128x128.size (outInb s)

/-- Row `d` of a buffer of eight rows, as the transfers name it. -/
abbrev rowOf (M : Memref sig .tc .vmem S8x128x128 .bf16) (d : Fin 8) : Memref sig .tc .vmem S128x128 .bf16 :=
  (M.slice (rowRect d) (fun _ => rfl)).squeeze S128x128 squeezes_S1x128x128_S128x128

/-- The elements of row `d`. -/
abbrev rowSet (d : Fin 8) : Finset S8x128x128.Idx := (rowRect d).set

theorem mem_rowSet {d : Fin 8} {i : S8x128x128.Idx} : i ∈ rowSet d ↔ (i 0).val = d.val := by
  rw [Rect.mem_set_unit]
  constructor
  · intro h
    have h0 := h 0
    have e : (S1x128x128.size 0 : ℕ) = 1 := rfl
    have e' : rowOff d 0 = d.val := rfl
    rw [e, e'] at h0
    omega
  · intro h a
    have h1 : (i 1).val < 128 := (i 1).isLt
    have h2 : (i 2).val < 128 := (i 2).isLt
    fin_cases a
    · show d.val ≤ (i 0).val ∧ (i 0).val < d.val + 1
      omega
    · show 0 ≤ (i 1).val ∧ (i 1).val < 0 + 128
      omega
    · show 0 ≤ (i 2).val ∧ (i 2).val < 0 + 128
      omega

theorem rows_disjoint (d d' : Fin 8) (h : d ≠ d') : Disjoint (rowSet d) (rowSet d') :=
  Finset.disjoint_left.mpr fun i hi hi' => h (Fin.ext ((mem_rowSet.mp hi).symm.trans (mem_rowSet.mp hi')))
theorem rows_cover : (Finset.univ : Finset (Fin 8)).biUnion rowSet = Finset.univ := by
  ext i
  simp only [Finset.mem_biUnion, Finset.mem_univ, true_and, iff_true]
  exact ⟨i 0, mem_rowSet.mpr rfl⟩

theorem mem_outSet {s : Fin 8} {i : S1024x128.Idx} : i ∈ (outRect s).set ↔ (i 0).val / 128 = s.val := by
  rw [Rect.mem_set_unit]
  constructor
  · intro h
    have h0 := h 0
    have e : (S128x128.size 0 : ℕ) = 128 := rfl
    have e' : outOff s 0 = 128 * s.val := rfl
    rw [e, e'] at h0
    omega
  · intro h a
    have h1 : (i 1).val < 128 := (i 1).isLt
    fin_cases a
    · show 128 * s.val ≤ (i 0).val ∧ (i 0).val < 128 * s.val + 128
      omega
    · show 0 ≤ (i 1).val ∧ (i 1).val < 0 + 128
      omega

theorem cRow_set (d : Fin 8) : (rowOf cM d).view.set = rowSet d :=
  (View.set_reshape _ _).trans (View.set_slice_whole _ _)
theorem rRow_set (d : Fin 8) : (rowOf rM d).view.set = rowSet d :=
  (View.set_reshape _ _).trans (View.set_slice_whole _ _)

/-! ## The semaphores -/

theorem semInb (o : Fin 8) : ∀ a, (![o.val] : Fin 1 → ℕ) a + S1.size a ≤ S8.size a := by revert o; decide +kernel

/-- The barrier semaphore; the send semaphore and the receive semaphore of offset `o`. -/
abbrev barS : Sem sig := (SemArray.scalar (sig.barrier 0 rfl) : Sems sig S_).sem
abbrev semAt (A : DmaSems sig S8) (o : Fin 8) : DmaSem sig :=
  ((A.slice (Rect.unit (s := S8) ![o.val] S1.size (semInb o))).squeeze S_ squeezes_S1_S_).sem
abbrev sendS (o : Fin 8) : DmaSem sig := semAt cc0_scratch2 o
abbrev recvS (o : Fin 8) : DmaSem sig := semAt cc0_scratch3 o

theorem sendS_inj : Function.Injective sendS := by decide +kernel
theorem recvS_inj : Function.Injective recvS := by decide +kernel
theorem send_ne_recv (o o' : Fin 8) : sendS o ≠ recvS o' := by revert o o'; decide +kernel

abbrev barCell (c : Dev nD) : GSem nD τ sig := ((c : Thread nD τ), .reg barS)
abbrev sendCell (c : Dev nD) (o : Fin 8) : GSem nD τ sig := ((c : Thread nD τ), .dma (sendS o))
abbrev recvCell (c : Dev nD) (o : Fin 8) : GSem nD τ sig := ((c : Thread nD τ), .dma (recvS o))

/-- What a transfer of one row adds to the semaphores it completes on. -/
abbrev N : ℕ := (rowOf rM 0).view.dmaCredit
theorem N_pos : 0 < N := View.dmaCredit_pos _ (by decide)
theorem credit_r (o : Fin 8) : (rowOf rM o).view.dmaCredit = N := rfl

end Cert.KernelIdeal.Run

end
-- ==== Proof.Run.KernelIdeal.Contents.lean ====
/-
# What the buffers hold

From the memory at launch: the block each device computes for each other device, the exchange buffer it fills, the
exchange buffer it receives, and the result it writes. Each buffer of contents is given row by row, as what one store
or one transfer leaves there.
-/
module

public import proofs.«01_k».proof.Proof.Run.KernelIdeal.Mesh

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

/-! ## The two operands and the blocks computed from them -/

/-- Device `c`'s rows of `x`, and `w`, as staged. -/
def xstg (c : Dev nD) : (cc0_stg0_0 : Ref sig .tc).ty.Contents (Elt F) :=
  (win0_0.blk (0 : Fin 1)).view.read (Elt F) (m ((c : Thread nD τ).loc main_arg0))
def wstg (c : Dev nD) : (cc0_stg1_0 : Ref sig .tc).ty.Contents (Elt F) :=
  (win0_1.blk (0 : Fin 1)).view.read (Elt F) (m ((c : Thread nD τ).loc main_arg1))

/-- The left and the right half of the columns of `w`. -/
def wlo (c : Dev nD) : Vec F S1024x512 .f32 :=
  wM.view.readAt (Elt F) (Rect.unit (s := S1024x1024) ![0, 0] S1024x512.size inb_S1024x1024_S1024x512_0_0) (wstg m c)
def whi (c : Dev nD) : Vec F S1024x512 .f32 :=
  wM.view.readAt (Elt F) (Rect.unit (s := S1024x1024) ![0, 512] S1024x512.size inb_S1024x1024_S1024x512_0_512) (wstg m c)

/-- The block device `c` computes for device `d`. -/
def blockFor (c : Dev nD) : Fin 8 → FVec F S1x128x128 .bf16
  | 0 => k0_pay3 (k0_pay1 (xstg m c)) (wlo m c)
  | 1 => k0_pay4 (k0_pay1 (xstg m c)) (wlo m c)
  | 2 => k0_pay5 (k0_pay1 (xstg m c)) (wlo m c)
  | 3 => k0_pay6 (k0_pay1 (xstg m c)) (wlo m c)
  | 4 => k0_pay8 (k0_pay1 (xstg m c)) (whi m c)
  | 5 => k0_pay9 (k0_pay1 (xstg m c)) (whi m c)
  | 6 => k0_pay10 (k0_pay1 (xstg m c)) (whi m c)
  | 7 => k0_pay11 (k0_pay7 (k0_pay1 (xstg m c)) (whi m c))

/-! ## The exchange buffer sent from -/

theorem emb_mem_row (d : Fin 8) (j : S1x128x128.Idx) : (rowRect d).emb j ∈ rowSet d :=
  (congrArg ((rowRect d).emb j ∈ ·) (View.set_slice_whole cc0_scratch0 (rowRect d))).mp
    (View.emb_mem_set ((View.whole cc0_scratch0).slice (rowRect d)) j)

/-- A load of a row reads the contents there. -/
theorem load_cRow (d : Fin 8) (f : (cc0_scratch0 : Ref sig .tc).ty.Contents (Elt F)) (g : FVec F S1x128x128 .bf16)
    (h : ∀ j, f ((rowRect d).emb j) = g j) : cM.view.readAt (Elt F) (rowRect d).toLoadRect f = g := funext h
theorem load_rRow (d : Fin 8) (f : (cc0_scratch1 : Ref sig .tc).ty.Contents (Elt F)) (g : FVec F S1x128x128 .bf16)
    (h : ∀ j, f ((rowRect d).emb j) = g j) : rM.view.readAt (Elt F) (rowRect d).toLoadRect f = g := funext h

/-- Device `c`'s exchange buffer once filled: row `d` holds the block for device `d`. -/
def sentBuf (c : Dev nD) : Buf (Elt F) ((c : Thread nD τ).loc cc0_scratch0) := fun i =>
  ((cM.access (rowRect (i 0))) : View sig .tc _ _ _).write (Elt F) (m ((c : Thread nD τ).loc cc0_scratch0)) (blockFor m c (i 0)) Finset.univ i

/-- Storing the block for `d` in row `d` leaves that row as `sentBuf`. -/
theorem stored_row (c : Dev nD) (d : Fin 8) (f : Buf (Elt F) ((c : Thread nD τ).loc cc0_scratch0)) (i : S8x128x128.Idx) (hi : i ∈ rowSet d) :
    ((cM.access (rowRect d)) : View sig .tc _ _ _).write (Elt F) f (blockFor m c d) Finset.univ i = sentBuf m c i := by
  obtain rfl : i 0 = d := Fin.ext (mem_rowSet.mp hi)
  unfold sentBuf
  refine View.write_congr (fun _ _ _ => rfl) fun h => absurd ?_ h
  show i ∈ ((View.whole cc0_scratch0).slice (rowRect (i 0))).set
  rw [View.set_slice_whole]; exact hi

/-- Reading row `d` of it gives the block for `d`. -/
theorem sent_row (c : Dev nD) (d : Fin 8) (j : S1x128x128.Idx) : sentBuf m c ((rowRect d).emb j) = blockFor m c d j := by
  refine (stored_row m c d (m ((c : Thread nD τ).loc cc0_scratch0)) _ (emb_mem_row d j)).symm.trans ?_
  exact View.write_emb_of_mem (Val := Elt F) (v := cM.access (rowRect d)) _ _ (Finset.mem_univ j)

theorem read_sent (c : Dev nD) (d : Fin 8) : cM.view.readAt (Elt F) (rowRect d).toLoadRect (sentBuf m c) = blockFor m c d :=
  load_cRow d _ _ (sent_row m c d)

/-! ## The exchange buffer received into -/

/-- Device `c`'s receiving buffer once all has arrived: row `o` holds row `c` of the filled buffer of the device `o` places before. -/
def recvBuf (c : Dev nD) : Buf (Elt F) ((c : Thread nD τ).loc cc0_scratch1) := fun i =>
  (rowOf rM (i 0)).view.write (Elt F) (m ((c : Thread nD τ).loc cc0_scratch1)) ((rowOf cM c).view.read (Elt F) (sentBuf m (back c (i 0)))) Finset.univ i

theorem arrived_row (c : Dev nD) (o : Fin 8) (f : Buf (Elt F) ((c : Thread nD τ).loc cc0_scratch1)) (i : S8x128x128.Idx) (hi : i ∈ rowSet o) :
    (rowOf rM o).view.write (Elt F) f ((rowOf cM c).view.read (Elt F) (sentBuf m (back c o))) Finset.univ i = recvBuf m c i := by
  obtain rfl : i 0 = o := Fin.ext (mem_rowSet.mp hi)
  unfold recvBuf
  refine View.write_congr (fun _ _ _ => rfl) fun h => absurd ?_ h
  have e : (rowOf rM (i 0)).view.set = rowSet (i 0) := rRow_set (i 0)
  show i ∈ (rowOf rM (i 0)).view.set
  exact (congrArg (i ∈ ·) e).mpr hi

theorem recv_row (c : Dev nD) (o : Fin 8) (j : S1x128x128.Idx) : recvBuf m c ((rowRect o).emb j) = blockFor m (back c o) c j := by
  refine (arrived_row m c o (m ((c : Thread nD τ).loc cc0_scratch1)) _ (emb_mem_row o j)).symm.trans ?_
  obtain ⟨j', rfl⟩ := (Shape.reshapeEquiv (s := S1x128x128) (s' := S128x128) (Shape.Squeezes.numel_eq squeezes_S1x128x128_S128x128)).surjective j
  refine (View.write_emb_of_mem (Val := Elt F) (v := (rowOf rM o).view) _ _ (Finset.mem_univ j')).trans ?_
  exact sent_row m (back c o) c _

theorem read_recv (c : Dev nD) (o : Fin 8) : rM.view.readAt (Elt F) (rowRect o).toLoadRect (recvBuf m c) = blockFor m (back c o) c :=
  load_rRow o _ _ (recv_row m c o)

/-! ## The result -/

/-- Device `c`'s result: in the rows of source `s`, the block `s` computed for `c`. -/
def outBuf (c : Dev nD) : (cc0_stg2_0 : Ref sig .tc).ty.Contents (Elt F) := fun i =>
  ((oM.access (outRect ⟨(i 0).val / 128, Nat.div_lt_of_lt_mul (i 0).isLt⟩)) : View sig .tc _ _ _).write (Elt F) (m ((c : Thread nD τ).loc cc0_stg2_0))
    (k0_pay12 (blockFor m ⟨(i 0).val / 128, Nat.div_lt_of_lt_mul (i 0).isLt⟩ c)) Finset.univ i

theorem out_row (c : Dev nD) (s : Fin 8) (f : (cc0_stg2_0 : Ref sig .tc).ty.Contents (Elt F)) (i : S1024x128.Idx) (hi : i ∈ (outRect s).set) :
    ((oM.access (outRect s)) : View sig .tc _ _ _).write (Elt F) f (k0_pay12 (blockFor m s c)) Finset.univ i = outBuf m c i := by
  obtain rfl : ⟨(i 0).val / 128, Nat.div_lt_of_lt_mul (i 0).isLt⟩ = s := Fin.ext (mem_outSet.mp hi)
  unfold outBuf
  refine View.write_congr (fun _ _ _ => rfl) fun h => absurd ?_ h
  exact (congrArg (i ∈ ·) (View.set_slice_whole cc0_stg2_0 (outRect ⟨(i 0).val / 128, Nat.div_lt_of_lt_mul (i 0).isLt⟩))).mpr hi

/-- The contents `f` hold the result in the rows of the sources in `S`. -/
def Agrees (c : Dev nD) (S : Finset (Fin 8)) (f : (cc0_stg2_0 : Ref sig .tc).ty.Contents (Elt F)) : Prop :=
  ∀ s ∈ S, ∀ i ∈ (outRect s).set, f i = outBuf m c i

theorem agrees_empty (c : Dev nD) (f : (cc0_stg2_0 : Ref sig .tc).ty.Contents (Elt F)) : Agrees m c ∅ f :=
  fun s hs => absurd hs (Finset.notMem_empty s)

/-- One more store adds its source. -/
theorem agrees_insert (c : Dev nD) (s : Fin 8) (S : Finset (Fin 8)) (f : (cc0_stg2_0 : Ref sig .tc).ty.Contents (Elt F)) (h : Agrees m c S f) :
    Agrees m c (insert s S) (((oM.access (outRect s)) : View sig .tc _ _ _).write (Elt F) f (k0_pay12 (blockFor m s c)) Finset.univ) := by
  intro s' hs' i hi
  by_cases hs : i ∈ (outRect s).set
  · exact out_row m c s f i hs
  · rw [View.write_of_not_mem]
    · rcases Finset.mem_insert.mp hs' with rfl | hs'
      · exact absurd hi hs
      · exact h s' hs' i hi
    · intro hm
      apply hs
      have hm' : i ∈ ((View.whole cc0_stg2_0).slice (outRect s)).set := hm
      rw [View.set_slice_whole] at hm'; exact hm'

/-- Contents that hold it for every source are the result. -/
theorem agrees_univ (c : Dev nD) (f : (cc0_stg2_0 : Ref sig .tc).ty.Contents (Elt F)) (h : Agrees m c Finset.univ f) : f = outBuf m c :=
  funext fun i => h ⟨(i 0).val / 128, Nat.div_lt_of_lt_mul (i 0).isLt⟩ (Finset.mem_univ _) i (mem_outSet.mpr rfl)

end Cert.KernelIdeal.Run

end
-- ==== Proof.Run.KernelIdeal.Schedule.lean ====
/-
# The protocol: what each semaphore's units stand for

Every device raises the barrier of the seven others once, and with that unit lends the receiver of the unit one row
of its own receiving buffer: the row that receiver will transfer into. A transfer under offset `o` raises the
sender's semaphore `o` (the sent row is the sender's again) and the receiver's semaphore `o` (the row has arrived,
holding the block). Duties are named by offsets: at a barrier, the offset of the device that lends; at a transfer's
semaphores, its own offset.
-/
module

public import proofs.«01_k».proof.Proof.Run.KernelIdeal.Contents

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy of the rounds and this protocol's -/

abbrev UB : Type := URounds (GSem nD τ sig) (Fin 8)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Rows of the two exchange buffers -/

/-- Device `c` holds row `d` of its sending buffer, at the contents `f`; -/
def sPts (c : Dev nD) (d : Fin 8) (f : Buf (Elt F) ((c : Thread nD τ).loc cc0_scratch0)) : sProp 𝕄 :=
  ((c : Thread nD τ).loc cc0_scratch0) ↦[rowSet d]{fullShare} f
/-- of its receiving buffer. -/
def rPts (c : Dev nD) (o : Fin 8) (f : Buf (Elt F) ((c : Thread nD τ).loc cc0_scratch1)) : sProp 𝕄 :=
  ((c : Thread nD τ).loc cc0_scratch1) ↦[rowSet o]{fullShare} f

instance sPts_storable (c : Dev nD) (d : Fin 8) (f) : BI.Storable (upEmb : UEmb _ 𝕄) (sPts (F := F) c d f) := by unfold sPts; infer_instance
instance rPts_storable (c : Dev nD) (o : Fin 8) (f) : BI.Storable (upEmb : UEmb _ 𝕄) (rPts (F := F) c o f) := by unfold rPts; infer_instance

/-- A whole buffer is its eight rows; -/
theorem sRows (c : Dev nD) (f : Buf (Elt F) ((c : Thread nD τ).loc cc0_scratch0)) :
    (((c : Thread nD τ).loc cc0_scratch0) ↦{fullShare} f : sProp 𝕄) = bigSep Finset.univ fun d : Fin 8 => sPts c d f :=
  Ring.pointsTo_blocks (ℓ := (c : Thread nD τ).loc cc0_scratch0) rowSet rows_disjoint rows_cover f
theorem rRows (c : Dev nD) (f : Buf (Elt F) ((c : Thread nD τ).loc cc0_scratch1)) :
    (((c : Thread nD τ).loc cc0_scratch1) ↦{fullShare} f : sProp 𝕄) = bigSep Finset.univ fun o : Fin 8 => rPts c o f :=
  Ring.pointsTo_blocks (ℓ := (c : Thread nD τ).loc cc0_scratch1) rowSet rows_disjoint rows_cover f
/-- eight rows at whatever contents are a buffer at some contents. -/
theorem sRows_join (c : Dev nD) (f₀ : Buf (Elt F) ((c : Thread nD τ).loc cc0_scratch0)) :
    (bigSep Finset.univ fun d : Fin 8 => iprop(∃ f, sPts (F := F) c d f)) ⊢ (∃ f, ((c : Thread nD τ).loc cc0_scratch0) ↦{fullShare} f : sProp 𝕄) :=
  Ring.pointsTo_blocks_join_exists (ℓ := (c : Thread nD τ).loc cc0_scratch0) rowSet rows_disjoint rows_cover f₀
theorem rRows_join (c : Dev nD) (f₀ : Buf (Elt F) ((c : Thread nD τ).loc cc0_scratch1)) :
    (bigSep Finset.univ fun o : Fin 8 => iprop(∃ f, rPts (F := F) c o f)) ⊢ (∃ f, ((c : Thread nD τ).loc cc0_scratch1) ↦{fullShare} f : sProp 𝕄) :=
  Ring.pointsTo_blocks_join_exists (ℓ := (c : Thread nD τ).loc cc0_scratch1) rowSet rows_disjoint rows_cover f₀

/-! ## The schedule -/

/-- One round. A device's barrier has the seven duties of the offsets 1 to 7, one unit each; the duty of `d` lends it row
    `d` of the receiving buffer of the device `d` places ahead. The two semaphores of an offset other than 0 have the duty
    named by the offset, of one row's credit: the sent row back, the received row holding its block. -/
def proto : Rounds.Schedule (GSem nD τ sig) (Fin 8) 𝕄 where
  duties g r := if r = 0 ∧ g.1.2 = .tc then Finset.univ.filter fun d => d ≠ 0 ∧ (g.2 = .reg barS ∨ g.2 = .dma (sendS d) ∨ g.2 = .dma (recvS d)) else ∅
  unitless _ := False
  amount g _ _ := if g.2 = .reg barS then 1 else N
  payload g _ d :=
    if g.2 = .reg barS then iprop(∃ f, rPts (ahead g.1.1 d) d f)
    else if g.2 = .dma (recvS d) then rPts g.1.1 d (recvBuf m g.1.1)
    else if g.2 = .dma (sendS d) then sPts g.1.1 (ahead g.1.1 d) (sentBuf m g.1.1)
    else iprop(emp)
  amount_pos g _ _ _ := by
    split
    · exact Nat.one_pos
    · exact N_pos

instance proto_payload_storable (g : GSem nD τ sig) (r : ℕ) (d : Fin 8) :
    BI.Storable (upEmb : UEmb _ 𝕄) ((proto (F := F) m).payload g r d) := by
  dsimp only [proto]
  (repeat' split) <;> infer_instance

variable (c : Dev nD) (o : Fin 8)

theorem send_ne_bar : (SemLoc.dma (sendS o) : SemLoc sig) ≠ .reg barS := fun h => by cases h
theorem recv_ne_bar : (SemLoc.dma (recvS o) : SemLoc sig) ≠ .reg barS := fun h => by cases h
theorem sendL_inj {o o' : Fin 8} (h : (SemLoc.dma (sendS o) : SemLoc sig) = .dma (sendS o')) : o = o' := sendS_inj (SemLoc.dma.inj h)
theorem recvL_inj {o o' : Fin 8} (h : (SemLoc.dma (recvS o) : SemLoc sig) = .dma (recvS o')) : o = o' := recvS_inj (SemLoc.dma.inj h)
theorem sendL_ne_recvL (o o' : Fin 8) : (SemLoc.dma (sendS o) : SemLoc sig) ≠ .dma (recvS o') := fun h => send_ne_recv o o' (SemLoc.dma.inj h)

/-! ### Duties -/

theorem duties_bar : (proto (F := F) m).duties (barCell c) 0 = Finset.univ.erase 0 := by
  dsimp only [proto]; rw [if_pos ⟨rfl, rfl⟩]
  ext d; simp
theorem duties_send (h : o ≠ 0) : (proto (F := F) m).duties (sendCell c o) 0 = {o} := by
  dsimp only [proto]; rw [if_pos ⟨rfl, rfl⟩]
  ext d
  rw [Finset.mem_filter, Finset.mem_singleton]
  constructor
  · rintro ⟨-, -, h1 | h1 | h1⟩
    · exact absurd h1 (send_ne_bar o)
    · exact (sendL_inj h1).symm
    · exact absurd h1 (sendL_ne_recvL o d)
  · rintro rfl; exact ⟨Finset.mem_univ _, h, .inr (.inl rfl)⟩
theorem duties_recv (h : o ≠ 0) : (proto (F := F) m).duties (recvCell c o) 0 = {o} := by
  dsimp only [proto]; rw [if_pos ⟨rfl, rfl⟩]
  ext d
  rw [Finset.mem_filter, Finset.mem_singleton]
  constructor
  · rintro ⟨-, -, h1 | h1 | h1⟩
    · exact absurd h1 (recv_ne_bar o)
    · exact absurd h1.symm (sendL_ne_recvL d o)
    · exact (recvL_inj h1).symm
  · rintro rfl; exact ⟨Finset.mem_univ _, h, .inr (.inr rfl)⟩
/-- The two semaphores of offset 0 are never used; -/
theorem duties_send0 : (proto (F := F) m).duties (sendCell c 0) 0 = ∅ := by
  dsimp only [proto]; rw [if_pos ⟨rfl, rfl⟩]
  refine Finset.filter_eq_empty_iff.mpr fun d _ => ?_
  rintro ⟨h0, h1 | h1 | h1⟩
  · exact absurd h1 (send_ne_bar 0)
  · exact h0 (sendL_inj h1).symm
  · exact absurd h1 (sendL_ne_recvL 0 d)
theorem duties_recv0 : (proto (F := F) m).duties (recvCell c 0) 0 = ∅ := by
  dsimp only [proto]; rw [if_pos ⟨rfl, rfl⟩]
  refine Finset.filter_eq_empty_iff.mpr fun d _ => ?_
  rintro ⟨h0, h1 | h1 | h1⟩
  · exact absurd h1 (recv_ne_bar 0)
  · exact absurd h1.symm (sendL_ne_recvL d 0)
  · exact h0 (recvL_inj h1).symm
/-- no semaphore is used in a later round. -/
theorem duties_later (g : GSem nD τ sig) (r : ℕ) (h : 1 ≤ r) : (proto (F := F) m).duties g r = ∅ := by
  dsimp only [proto]; exact if_neg fun h' => by omega

/-! ### Amounts -/

theorem amount_bar (d : Fin 8) : (proto (F := F) m).amount (barCell c) 0 d = 1 := by dsimp only [proto]; exact if_pos rfl
theorem amount_send (d : Fin 8) : (proto (F := F) m).amount (sendCell c o) 0 d = N := by dsimp only [proto]; exact if_neg (send_ne_bar o)
theorem amount_recv (d : Fin 8) : (proto (F := F) m).amount (recvCell c o) 0 d = N := by dsimp only [proto]; exact if_neg (recv_ne_bar o)

theorem expect_bar : (proto (F := F) m).expect (barCell c) 0 = 7 := by
  unfold Schedule.expect Schedule.amountOf
  rw [duties_bar, Finset.sum_congr rfl fun d _ => amount_bar m c d, Finset.sum_const]; rfl
theorem expect_send (h : o ≠ 0) : (proto (F := F) m).expect (sendCell c o) 0 = N := by
  unfold Schedule.expect Schedule.amountOf; rw [duties_send m c o h, Finset.sum_singleton, amount_send]
theorem expect_recv (h : o ≠ 0) : (proto (F := F) m).expect (recvCell c o) 0 = N := by
  unfold Schedule.expect Schedule.amountOf; rw [duties_recv m c o h, Finset.sum_singleton, amount_recv]

/-! ### Payloads -/

theorem payload_bar (d : Fin 8) : (proto (F := F) m).payload (barCell c) 0 d = iprop(∃ f, rPts (ahead c d) d f) := by dsimp only [proto]; exact if_pos rfl
theorem payload_recv : (proto (F := F) m).payload (recvCell c o) 0 o = rPts c o (recvBuf m c) := by
  dsimp only [proto]; rw [if_neg (recv_ne_bar o), if_pos rfl]
theorem payload_send : (proto (F := F) m).payload (sendCell c o) 0 o = sPts c (ahead c o) (sentBuf m c) := by
  dsimp only [proto]; rw [if_neg (send_ne_bar o), if_neg (sendL_ne_recvL o o), if_pos rfl]

/-- What the barrier's wait yields: the seven rows lent. -/
theorem rest_bar : bigSep ((proto (F := F) m).duties (barCell c) 0 \ ∅) (fun d => (proto (F := F) m).payload (barCell c) 0 d)
    = iprop((∃ f, rPts (ahead c 1) 1 f) ∗ (∃ f, rPts (ahead c 2) 2 f) ∗ (∃ f, rPts (ahead c 3) 3 f) ∗ (∃ f, rPts (ahead c 4) 4 f)
        ∗ (∃ f, rPts (ahead c 5) 5 f) ∗ (∃ f, rPts (ahead c 6) 6 f) ∗ (∃ f, rPts (ahead c 7) 7 f)) := by
  rw [Finset.sdiff_empty, duties_bar, bigSep_eq_bigSepL_of_eq [1, 2, 3, 4, 5, 6, 7] (by decide) (by decide)]
  simp only [payload_bar, bigSepL_cons_cons, bigSepL_singleton]
  rfl
theorem rest_send (h : o ≠ 0) : bigSep ((proto (F := F) m).duties (sendCell c o) 0 \ ∅) (fun d => (proto (F := F) m).payload (sendCell c o) 0 d)
    = sPts c (ahead c o) (sentBuf m c) := by
  rw [Finset.sdiff_empty, duties_send m c o h, bigSep_singleton, payload_send]
theorem rest_recv (h : o ≠ 0) : bigSep ((proto (F := F) m).duties (recvCell c o) 0 \ ∅) (fun d => (proto (F := F) m).payload (recvCell c o) 0 d)
    = rPts c o (recvBuf m c) := by
  rw [Finset.sdiff_empty, duties_recv m c o h, bigSep_singleton, payload_recv]

/-! ## What each device owes, and the order of the semaphores -/

/-- The arrival device `c` owes under offset `o`, if it makes that transfer in the first round (its destination is below 4); -/
def dueEarly (c : Dev nD) (o : Fin 8) : CellTallies nD τ sig Unit := if (ahead c o).val < 4 then tallyAt (recvCell (ahead c o) o) () N else 0
/-- in the second. -/
def dueLate (c : Dev nD) (o : Fin 8) : CellTallies nD τ sig Unit := if (ahead c o).val < 4 then 0 else tallyAt (recvCell (ahead c o) o) () N
def dueBar (c : Dev nD) (o : Fin 8) : CellTallies nD τ sig Unit := tallyAt (barCell (ahead c o)) () 1

/-- Owed after the first round of transfers, after the barrier's signals, and at the start: each summed so that the next
    step pays the last summand. -/
def oweLate (c : Dev nD) : CellTallies nD τ sig Unit :=
  0 + dueLate c 4 + dueLate c 1 + dueLate c 7 + dueLate c 5 + dueLate c 3 + dueLate c 6 + dueLate c 2
def oweSends (c : Dev nD) : CellTallies nD τ sig Unit :=
  oweLate c + dueEarly c 4 + dueEarly c 1 + dueEarly c 7 + dueEarly c 5 + dueEarly c 3 + dueEarly c 6 + dueEarly c 2
def oweAll (c : Dev nD) : CellTallies nD τ sig Unit :=
  oweSends c + dueBar c 7 + dueBar c 6 + dueBar c 5 + dueBar c 4 + dueBar c 3 + dueBar c 2 + dueBar c 1

def L (g : GSem nD τ sig) : Finset Unit := if g.1.2 = .tc then {()} else ∅
/-- Barriers come at 1, arrivals at 2, everything else at 0. -/
def lv (g : GSem nD τ sig) (_ : Unit) : ℕ := if g.2 = .reg barS then 1 else if ∃ o, g.2 = .dma (recvS o) then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := if_pos rfl
theorem lv_recv (c : Dev nD) (o : Fin 8) : lv (recvCell c o) () = 2 := by unfold lv; rw [if_neg (recv_ne_bar o)]; exact if_pos ⟨o, rfl⟩

/-- Whatever `O` owes, it owes to a cell of `P`. -/
def OwesTo (P : GSem nD τ sig → Prop) (O : CellTallies nD τ sig Unit) : Prop := ∀ g u, 0 < O g u → P g

theorem owesTo_zero (P : GSem nD τ sig → Prop) : OwesTo P 0 := fun _ _ h => absurd h (Nat.lt_irrefl 0)
theorem owesTo_add {P : GSem nD τ sig → Prop} {O O' : CellTallies nD τ sig Unit} (h : OwesTo P O) (h' : OwesTo P O') : OwesTo P (O + O') := by
  intro g u hg
  rw [Pi.add_apply, Finsupp.add_apply] at hg
  rcases Nat.eq_zero_or_pos (O g u) with h0 | h0
  · exact h' g u (by omega)
  · exact h g u h0
theorem owesTo_tally {P : GSem nD τ sig → Prop} {g : GSem nD τ sig} (h : P g) (n : ℕ) : OwesTo P (tallyAt g () n) := by
  intro g' u hg
  rw [tallyAt_apply] at hg
  by_cases hc : g' = g ∧ u = ()
  · rw [hc.1]; exact h
  · rw [if_neg hc] at hg; exact absurd hg (Nat.lt_irrefl 0)
theorem owesTo_mono {P P' : GSem nD τ sig → Prop} {O : CellTallies nD τ sig Unit} (h : OwesTo P O) (hp : ∀ g, P g → P' g) : OwesTo P' O :=
  fun g u hg => hp g (h g u hg)

abbrev IsArrival (g : GSem nD τ sig) : Prop := ∃ c o, g = recvCell c o
abbrev IsOwed (g : GSem nD τ sig) : Prop := IsArrival g ∨ ∃ c, g = barCell c

theorem owesTo_early (c : Dev nD) (o : Fin 8) : OwesTo IsArrival (dueEarly c o) := by
  unfold dueEarly; split
  · exact owesTo_tally ⟨_, _, rfl⟩ N
  · exact owesTo_zero _
theorem owesTo_late (c : Dev nD) (o : Fin 8) : OwesTo IsArrival (dueLate c o) := by
  unfold dueLate; split
  · exact owesTo_zero _
  · exact owesTo_tally ⟨_, _, rfl⟩ N
theorem owesTo_bar (c : Dev nD) (o : Fin 8) : OwesTo IsOwed (dueBar c o) := owesTo_tally (.inr ⟨_, rfl⟩) 1

/-- After the signals a device owes arrivals only; -/
theorem owesTo_sends (c : Dev nD) : OwesTo IsArrival (oweSends c) := by
  unfold oweSends oweLate
  repeat' apply owesTo_add
  any_goals first | exact owesTo_zero _ | exact owesTo_early c _ | exact owesTo_late c _
/-- at the start barriers' units too. -/
theorem owesTo_all (c : Dev nD) : OwesTo IsOwed (oweAll c) := by
  have hb := owesTo_bar c
  have hs : OwesTo IsOwed (oweSends c) := owesTo_mono (owesTo_sends c) fun g h => .inl h
  exact owesTo_add (owesTo_add (owesTo_add (owesTo_add (owesTo_add (owesTo_add (owesTo_add hs (hb 7)) (hb 6)) (hb 5)) (hb 4)) (hb 3)) (hb 2)) (hb 1)

theorem lv_arrival {g : GSem nD τ sig} (h : IsArrival g) : lv g () = 2 := by obtain ⟨c, o, rfl⟩ := h; exact lv_recv c o
theorem L_owed {g : GSem nD τ sig} (h : IsOwed g) : L g = {()} := by
  rcases h with ⟨c, o, rfl⟩ | ⟨c, rfl⟩ <;> exact L_tc c _
theorem lv_owed {g : GSem nD τ sig} (h : IsOwed g) : 1 ≤ lv g () := by
  rcases h with h | ⟨c, rfl⟩
  · rw [lv_arrival h]; decide
  · rw [lv_bar]

/-- At its barrier a device may wait: it owes arrivals only, which come after. -/
theorem mayWait_bar (c : Dev nD) : (levAts L lv : sProp 𝕄) ⊢ MayWait (c : Thread nD τ) (.reg barS) () (oweSends c) :=
  MayOwe.of_cut (L := L) (lev := lv) 1 (fun p hp => by rw [Finset.mem_singleton.mp hp, L_tc]; exact Finset.mem_singleton_self _)
    (fun g u hg => by rw [L_owed (.inl (owesTo_sends c g u hg))]; exact Finset.mem_singleton_self _)
    (fun p hp => by rw [Finset.mem_singleton.mp hp]; exact Nat.le_of_eq (lv_bar c))
    (fun g u hg => by cases u; rw [lv_arrival (owesTo_sends c g _ hg)]; decide)

/-- At a staging semaphore it may wait whatever it owes. -/
theorem mayWait_stage (c : Dev nD) (q : DmaSem sig) (hq : ∀ o, q ≠ recvS o) (O : CellTallies nD τ sig Unit) (hO : O = oweAll c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rw [L_owed (owesTo_all c g u hg)]; exact Finset.mem_singleton_self _)
      (fun p hp => by
        rw [Finset.mem_singleton.mp hp]; unfold lv
        rw [if_neg (fun h => by cases h), if_neg (fun ⟨o, h⟩ => hq o (SemLoc.dma.inj h))])
      (fun g u hg => by cases u; exact lv_owed (owesTo_all c g _ hg))
  · rw [MayWait_zero]; iintro -; iempintro

end Cert.KernelIdeal.Run

end
-- ==== Proof.Run.KernelIdeal.Steps.lean ====
/-
# The kernel's steps

One rule for each thing a device does: raising another device's barrier, waiting on its own, filling a row of the
sending buffer, a transfer of the first and of the second round (each taken or passed over as its destination is below
4 or not), the wait for an arrival, adding a block to the result, the wait for a sent row.
-/
module

public import proofs.«01_k».proof.Proof.Run.KernelIdeal.Schedule

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The semaphores' invariants, held by every device -/

/-- A device's semaphores: its barrier, the eight it sends on, the eight it receives on. -/
abbrev Place : Type := Unit ⊕ Fin 8 ⊕ Fin 8
abbrev placeSem : Place → SemLoc sig
  | .inl _ => .reg barS
  | .inr (.inl o) => .dma (sendS o)
  | .inr (.inr o) => .dma (recvS o)
abbrev cellAt (p : Dev nD × Place) : GSem nD τ sig := ((p.1 : Thread nD τ), placeSem p.2)

/-- Every semaphore of every device is under its invariant, and its round 0 is open. -/
def records (K : Dev nD × Place → ℕ) : sProp 𝕄 :=
  iprop((bigSep Finset.univ fun p : Dev nD × Place => cellInv ER (proto m) (K p) (cellAt p))
    ∗ bigSep Finset.univ fun p : Dev nD × Place => reached ER (cellAt p) 0)

instance records_persistent (K : Dev nD × Place → ℕ) : BI.Persistent (records m K) := by unfold records; infer_instance

theorem one_of (Φ : Dev nD × Place → sProp 𝕄) (p : Dev nD × Place) : (bigSep Finset.univ Φ) ⊢ Φ p := bigSep_elim (Finset.mem_univ p)
theorem inv_at (K : Dev nD × Place → ℕ) (p : Dev nD × Place) : records m K ⊢ cellInv ER (proto m) (K p) (cellAt p) := by
  unfold records
  iintro ⟨H, -⟩
  iapply (one_of (fun q => cellInv ER (proto m) (K q) (cellAt q)) p); iexact H
theorem open_at (K : Dev nD × Place → ℕ) (p : Dev nD × Place) : records m K ⊢ reached ER (cellAt p) 0 := by
  unfold records
  iintro ⟨-, H⟩
  iapply (one_of (fun q => reached ER (cellAt q) 0) p); iexact H

/-! ## What is held around a step -/

abbrev 𝒱₀ : Variants := Variants.none

/-- Device `c` runs `p` to `Q`. -/
abbrev Runs {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- Device `c` owes `O`, whatever it has waited on. -/
def Owes (c : Dev nD) (O : CellTallies nD τ sig Unit) : sProp 𝕄 := iprop(∃ W, owes (c : Thread nD τ) O W)

/-- Row `d` of the sending buffer before the first round (rows below 4 are filled); -/
def RowFirst (c : Dev nD) (d : Fin 8) : sProp 𝕄 := if d.val < 4 then sPts c d (sentBuf m c) else iprop(∃ f, sPts c d f)
/-- between the rounds (a filled row has been handed to its transfer, unless it is the device's own); -/
def RowMid (c : Dev nD) (d : Fin 8) : sProp 𝕄 :=
  if d.val < 4 then (if d = c then sPts c d (sentBuf m c) else iprop(emp)) else iprop(∃ f, sPts c d f)
/-- before the second round (the other rows are filled). -/
def RowSecond (c : Dev nD) (d : Fin 8) : sProp 𝕄 :=
  if d.val < 4 then (if d = c then sPts c d (sentBuf m c) else iprop(emp)) else sPts c d (sentBuf m c)

/-- What device `c` needs to transfer under offset `o`: the two duties, and the row it transfers into. -/
def Ready (c : Dev nD) (o : Fin 8) : sProp 𝕄 :=
  iprop(dutyTok ER (sendCell c o) 0 o ∗ dutyTok ER (recvCell (ahead c o) o) 0 o ∗ ∃ f, rPts (ahead c o) o f)
/-- After the first round: the claim on the sent row's return if the transfer was made, else what it needs. -/
def Mid (c : Dev nD) (o : Fin 8) : sProp 𝕄 := if (ahead c o).val < 4 then cred (tallyAt (sendCell c o) () N) else Ready c o

/-- The result's buffer, right in the rows of the sources in `S`. -/
def OutPts (c : Dev nD) (S : Finset (Fin 8)) : sProp 𝕄 :=
  iprop(∃ f : Buf (Elt F) ((c : Thread nD τ).loc cc0_stg2_0), ⌜Agrees m c S f⌝ ∗ (((c : Thread nD τ).loc cc0_stg2_0) ↦{fullShare} f))

variable (K : Dev nD × Place → ℕ) (c : Dev nD) (o : Fin 8)

theorem runs_ret {α : Type} (a : α) (Q : α → sProp 𝕄) : Q a ⊢ Runs c (.ret a) Q := by
  unfold Runs; rw [wp_ret]; iintro H; imodintro; iexact H
theorem ahead_ne (ho : o ≠ 0) : ahead c o ≠ c := by
  intro h; exact ho (ahead_inj c (h.trans (ahead_zero c).symm))
theorem rowMid_high (d : Fin 8) (h : ¬ d.val < 4) : RowMid m c d = iprop(∃ f, sPts c d f) := if_neg h
theorem rowMid_low (d : Fin 8) (h : d.val < 4) : RowMid m c d = RowSecond m c d := by unfold RowMid RowSecond; rw [if_pos h, if_pos h]
theorem rowSecond_high (d : Fin 8) (h : ¬ d.val < 4) : RowSecond m c d = sPts c d (sentBuf m c) := if_neg h
theorem rowFirst_own : RowFirst m c c = RowMid m c c := by unfold RowFirst RowMid; rw [if_pos rfl]
theorem rowSecond_own : RowSecond m c c = sPts c c (sentBuf m c) := by unfold RowSecond; rw [if_pos rfl]; exact ite_id _

theorem sPts_view (d : Fin 8) (f : Buf (Elt F) ((c : Thread nD τ).loc cc0_scratch0)) :
    (((rowOf cM d).view.loc (c : Thread nD τ) ↦[(rowOf cM d).view.set]{fullShare} f) : sProp 𝕄) = sPts c d f :=
  congrArg (fun S : Finset (Idx ((c : Thread nD τ).loc cc0_scratch0)) => (((c : Thread nD τ).loc cc0_scratch0) ↦[S]{fullShare} f : sProp 𝕄)) (cRow_set d)
theorem rPts_view (f : Buf (Elt F) ((c : Thread nD τ).loc cc0_scratch1)) :
    (((rowOf rM o).view.loc (c : Thread nD τ) ↦[(rowOf rM o).view.set]{fullShare} f) : sProp 𝕄) = rPts c o f :=
  congrArg (fun S : Finset (Idx ((c : Thread nD τ).loc cc0_scratch1)) => (((c : Thread nD τ).loc cc0_scratch1) ↦[S]{fullShare} f : sProp 𝕄)) (rRow_set o)

/-! ## The barrier -/

/-- Raising the barrier of the device `o` places ahead lends it row `opp o` of the receiving buffer. -/
theorem signal_step (ho : o ≠ 0) {n : Dev nD} (hn : n = ahead c o) (X : CellTallies nD τ sig Unit) {α : Type}
    {k : PUnit → Prog (TpuEff nD τ sig (Elt F) Λ₀ .tc) α} {Q : α → sProp 𝕄} :
    iprop(records m K ∗ Owes c (X + dueBar c o) ∗ dutyTok ER (barCell (ahead c o)) 0 (opp o) ∗ ∃ f, rPts c (opp o) f)
      ⊢ iprop((Owes c X -∗ Runs c (k ⟨⟩) Q) -∗ Runs c (.op (.semSignal ((n, .tc) : Thread nD τ) barS (1#32).toInt) k) Q) := by
  subst hn
  unfold Owes
  iintro ⟨#HR, ⟨%W, HO⟩, Ht, Hrow⟩ Hk
  iapply (Rounds.wp_signal 𝒱₀ ER (proto m) (c : Thread nD τ) none (dst := (ahead c o : Thread nD τ)) (κ := K (ahead c o, .inl ()))
      (d := opp o) (by rw [duties_bar]; exact Finset.mem_erase.mpr ⟨opp_ne o ho, Finset.mem_univ _⟩)
      ((amount_bar m (ahead c o) (opp o)).trans (by decide)) () X rfl) $$ [HO Ht Hrow]
  · isplitr; · iapply (inv_at m K (ahead c o, .inl ())); iexact HR
    isplitl [HO]; · iexact HO
    isplitl [Ht]; · iexact Ht
    isplitl [Hrow]
    · rw [payload_bar, ahead_opp]; iexact Hrow
    iapply (open_at m K (ahead c o, .inl ())); iexact HR
  iintro HO
  iapply Hk; iexists W; iexact HO

/-- The wait on the barrier: the seven rows lent to the device, and its barrier's counter back at zero. -/
theorem barrier_step {α : Type} {k : PUnit → Prog (TpuEff nD τ sig (Elt F) Λ₀ .tc) α} {Q : α → sProp 𝕄} :
    iprop(records m K ∗ levAts L lv ∗ Owes c (oweSends c) ∗ atPos ER (barCell c) 0 ∅ 0 ∗ cred (tallyAt (barCell c) () 7))
      ⊢ iprop(((Owes c (oweSends c) ∗ semVal (barCell c) 0
            ∗ ((∃ f, rPts (ahead c 1) 1 f) ∗ (∃ f, rPts (ahead c 2) 2 f) ∗ (∃ f, rPts (ahead c 3) 3 f) ∗ (∃ f, rPts (ahead c 4) 4 f)
              ∗ (∃ f, rPts (ahead c 5) 5 f) ∗ (∃ f, rPts (ahead c 6) 6 f) ∗ (∃ f, rPts (ahead c 7) 7 f))) -∗ Runs c (k ⟨⟩) Q)
          -∗ Runs c (.op (.semWait barS (7#32).toInt) k) Q) := by
  unfold Owes
  iintro ⟨#HR, #Hlev, ⟨%W, HO⟩, Hat, Hcr⟩ Hk
  iapply (Rounds.wp_wait_rest_token 𝒱₀ ER (proto m) (c : Thread nD τ) none (κ := K (c, .inl ()))
      (wpE_semWait_eq 𝒱₀ (c : Thread nD τ) none Set.univ) (Set.mem_univ _) () (O := oweSends c) (W := W) (R := 0) (m := 0) (T := ∅)
      (by rw [expect_bar]; decide)) $$ [Hcr HO Hat]
  · isplitr; · iapply (inv_at m K (c, .inl ())); iexact HR
    isplitl [Hcr]; · iexact Hcr
    isplitl [HO]; · iexact HO
    isplitr; · iapply (mayWait_bar c); iexact Hlev
    iexact Hat
  iintro ⟨HO, Hat, -, Hpay⟩
  ihave Hp := (Entails.of_eq (rest_bar m c)) $$ Hpay
  ihave Hinv := (inv_at m K (c, .inl ())) $$ HR
  iapply fupd_wp
  imod (Rounds.cell_close ER (proto m) (Set.mem_univ (K (c, .inl ()))) (fun h => h) (R := 0 + 1) (fun r hr => duties_later m (barCell c) r hr)) $$ [Hat Hinv] with Hz
  · isplitl [Hinv]; · iexact Hinv
    iexact Hat
  imodintro
  iapply Hk
  isplitl [HO]; · iexists _; iexact HO
  isplitl [Hz]; · iexact Hz
  iexact Hp

/-! ## Filling a row -/

/-- A load of the row and the store of its block. -/
theorem fill_step (d : Fin 8) {off : Fin 3 → ℕ} (hoff : off = rowOff d) {inb : ∀ a, off a + S1x128x128.size a ≤ S8x128x128.size a}
    {hl : cM.view.LoadsAt (Rect.unit (s := S8x128x128) off S1x128x128.size inb).toLoadRect}
    {w : FVec F S1x128x128 .bf16} (hw : w = blockFor m c d)
    {hx : (cM.access (Rect.unit (s := S8x128x128) off S1x128x128.size inb)).Stores Finset.univ} {hm}
    {α : Type} {k : PUnit → Prog (TpuEff nD τ sig (Elt F) Λ₀ .tc) α} {Q : α → sProp 𝕄} :
    iprop(∃ f, sPts (F := F) c d f)
      ⊢ iprop((sPts c d (sentBuf m c) -∗ Runs c (k ⟨⟩) Q)
          -∗ Runs c (.op (.load cM (Rect.unit (s := S8x128x128) off S1x128x128.size inb).toLoadRect hl)
              fun _ => .op (.store cM (Rect.unit (s := S8x128x128) off S1x128x128.size inb) w Finset.univ hx hm) k) Q) := by
  subst hoff hw
  iintro ⟨%f, H⟩ Hk
  unfold sPts
  iapply (wp_load_rect 𝒱₀ (c : Thread nD τ) none Set.univ (m := cM) (r := rowRect d) (S := rowSet d)
    (Eq.subset (View.set_slice_whole cc0_scratch0 (rowRect d)))) $$ H
  iintro H
  iapply (wp_store 𝒱₀ (c : Thread nD τ) none Set.univ (m := cM) (r := rowRect d) (Mk := Finset.univ) (S := rowSet d)
    (Eq.subset (View.set_slice_whole cc0_scratch0 (rowRect d)))) $$ H
  iintro H
  iapply Hk
  iapply (Entails.of_eq (pointsTo_congr (ℓ := (c : Thread nD τ).loc cc0_scratch0) (stored_row m c d f)))
  iexact H

/-! ## The transfers -/

/-- A transfer of the block for the device `o` places ahead into the row it lent. -/
theorem send_step (ho : o ≠ 0) {n : Dev nD} (hn : n = ahead c o) {off : Fin 3 → ℕ} (hoff : off = rowOff (ahead c o))
    {inb : ∀ a, off a + S1x128x128.size a ≤ S8x128x128.size a}
    {hsc : (rowOf rM o : Memref sig (Dev.tc n : Thread nD τ).2.kind .vmem S128x128 .bf16).view.ref.isScScratch = false}
    {hsrc : ((cM.slice (Rect.unit (s := S8x128x128) off S1x128x128.size inb) (fun _ => rfl)).squeeze S128x128 squeezes_S1x128x128_S128x128).view.WordExact}
    {hdst : (rowOf rM o).view.WordExact}
    {hsem : DmaTarget.Typed .vmem (.dma (recvS o)) (.remote (Dev.tc n : Thread nD τ) (rowOf rM o) (.dma (sendS o)) hsc)}
    (X : CellTallies nD τ sig Unit) {α : Type} {k : PUnit → Prog (TpuEff nD τ sig (Elt F) Λ₀ .tc) α} {Q : α → sProp 𝕄} :
    iprop(records m K ∗ Owes c (X + tallyAt (recvCell (ahead c o) o) () N) ∗ sPts c (ahead c o) (sentBuf m c) ∗ Ready c o)
      ⊢ iprop(((Owes c X ∗ cred (tallyAt (sendCell c o) () N)) -∗ Runs c (k ⟨⟩) Q)
          -∗ Runs c (.op (.enqueueDma ((cM.slice (Rect.unit (s := S8x128x128) off S1x128x128.size inb) (fun _ => rfl)).squeeze S128x128 squeezes_S1x128x128_S128x128)
              (.remote (Dev.tc n : Thread nD τ) (rowOf rM o) (.dma (sendS o)) hsc) (.dma (recvS o)) hsrc hdst hsem) k) Q) := by
  subst hn hoff
  unfold Owes Ready
  iintro ⟨#HR, ⟨%W, HO⟩, Hs, HtS, HtR, ⟨%fd, Hr⟩⟩ Hk
  iapply (Rounds.wp_send_pointsTo 𝒱₀ ER (proto m) (c : Thread nD τ) none (c' := (Dev.tc (ahead c o) : Thread nD τ)) (κ₁ := K (c, .inr (.inl o))) (κ₂ := K (ahead c o, .inr (.inr o)))
    (src := rowOf cM (ahead c o)) (dst := rowOf rM o) (q := fullShare) (fs := sentBuf m c) (r₁ := 0) (r₂ := 0) (d₁ := o) (d₂ := o) (fd := fd)
    (by rw [duties_send m c o ho]; exact Finset.mem_singleton_self _) (by rw [duties_recv m (ahead c o) o ho]; exact Finset.mem_singleton_self _)
    () () N rfl (amount_send m c o o) (amount_recv m (ahead c o) o o) X rfl (W := W)
    (by rw [payload_send]; exact Entails.of_eq (sPts_view c (ahead c o) _))
    (by
      rw [payload_recv]
      refine (Entails.of_eq (rPts_view (ahead c o) o _)).trans (Entails.of_eq ?_)
      unfold rPts
      refine pointsTo_congr (ℓ := (ahead c o : Thread nD τ).loc cc0_scratch1) fun i hi => ?_
      have h := arrived_row m (ahead c o) o fd i hi
      rw [back_ahead] at h; exact h)) $$ [HO Hs HtS HtR Hr]
  · isplitr; · iapply (inv_at m K (c, .inr (.inl o))); iexact HR
    isplitr; · iapply (inv_at m K (ahead c o, .inr (.inr o))); iexact HR
    isplitl [Hs]; · iapply (Entails.of_eq (sPts_view c (ahead c o) _).symm); iexact Hs
    isplitl [Hr]; · iapply (Entails.of_eq (rPts_view (ahead c o) o _).symm); iexact Hr
    isplitl [HO]; · iexact HO
    isplitl [HtS]; · iexact HtS
    isplitr; · iapply (open_at m K (c, .inr (.inl o))); iexact HR
    isplitl [HtR]; · iexact HtR
    iapply (open_at m K (ahead c o, .inr (.inr o))); iexact HR
  iintro ⟨Hcr, HO⟩
  iapply Hk
  isplitl [HO]; · iexists W; iexact HO
  iexact Hcr

/-- The first round at offset `o`: the transfer is made when its destination is below 4. -/
theorem early_step (ho : o ≠ 0) {cnd : Prop} [Decidable cnd] (hc : cnd ↔ (ahead c o).val < 4)
    {n : cnd → ℕ} (hn : ∀ h, n h = (ahead c o).val) {hlt : ∀ h, n h < nD} {off : Fin 3 → ℕ} (hoff : off = rowOff (ahead c o))
    {inb : cnd → ∀ a, off a + S1x128x128.size a ≤ S8x128x128.size a}
    {hsc : ∀ h, (rowOf rM o : Memref sig (Dev.tc (⟨n h, hlt h⟩ : Dev nD) : Thread nD τ).2.kind .vmem S128x128 .bf16).view.ref.isScScratch = false}
    {hsrc : ∀ h, ((cM.slice (Rect.unit (s := S8x128x128) off S1x128x128.size (inb h)) (fun _ => rfl)).squeeze S128x128 squeezes_S1x128x128_S128x128).view.WordExact}
    {hdst : cnd → (rowOf rM o).view.WordExact}
    {hsem : ∀ h, DmaTarget.Typed .vmem (.dma (recvS o)) (.remote (Dev.tc (⟨n h, hlt h⟩ : Dev nD) : Thread nD τ) (rowOf rM o) (.dma (sendS o)) (hsc h))}
    (X : CellTallies nD τ sig Unit) {α : Type} {k : PUnit → Prog (TpuEff nD τ sig (Elt F) Λ₀ .tc) α} {Q : α → sProp 𝕄} :
    iprop(records m K ∗ Owes c (X + dueEarly c o) ∗ RowFirst m c (ahead c o) ∗ Ready c o)
      ⊢ iprop(((Owes c X ∗ RowMid m c (ahead c o) ∗ Mid c o) -∗ Runs c (k ⟨⟩) Q)
          -∗ Runs c (if h : cnd then .op (.enqueueDma ((cM.slice (Rect.unit (s := S8x128x128) off S1x128x128.size (inb h)) (fun _ => rfl)).squeeze S128x128 squeezes_S1x128x128_S128x128)
              (.remote (Dev.tc (⟨n h, hlt h⟩ : Dev nD) : Thread nD τ) (rowOf rM o) (.dma (sendS o)) (hsc h)) (.dma (recvS o)) (hsrc h) (hdst h) (hsem h)) k
            else k ⟨⟩) Q) := by
  by_cases h : cnd
  · have h4 := hc.mp h
    rw [dif_pos h]
    unfold dueEarly RowFirst RowMid Mid
    rw [if_pos h4, if_pos h4, if_pos h4, if_pos h4, if_neg (ahead_ne c o ho)]
    iintro ⟨#HR, HO, Hs, Ht⟩ Hk
    iapply (send_step m K c o ho (Fin.ext (hn h)) hoff X) $$ [HO Hs Ht]
    · isplitr; · iexact HR
      isplitl [HO]; · iexact HO
      isplitl [Hs] <;> iassumption
    iintro ⟨HO, Hcr⟩
    iapply Hk
    isplitl [HO]; · iexact HO
    isplitr; · iempintro
    iexact Hcr
  · have h4 : ¬ (ahead c o).val < 4 := fun h' => h (hc.mpr h')
    rw [dif_neg h]
    unfold dueEarly RowFirst RowMid Mid
    rw [if_neg h4, if_neg h4, if_neg h4, if_neg h4, add_zero]
    iintro ⟨#HR, HO, Hs, Ht⟩ Hk
    iapply Hk
    isplitl [HO]; · iexact HO
    isplitl [Hs] <;> iassumption

/-- The second round: it is made when its destination is not, so that after both every transfer has been made. -/
theorem late_step (ho : o ≠ 0) {cnd : Prop} [Decidable cnd] (hc : cnd ↔ ¬ (ahead c o).val < 4)
    {n : cnd → ℕ} (hn : ∀ h, n h = (ahead c o).val) {hlt : ∀ h, n h < nD} {off : Fin 3 → ℕ} (hoff : off = rowOff (ahead c o))
    {inb : cnd → ∀ a, off a + S1x128x128.size a ≤ S8x128x128.size a}
    {hsc : ∀ h, (rowOf rM o : Memref sig (Dev.tc (⟨n h, hlt h⟩ : Dev nD) : Thread nD τ).2.kind .vmem S128x128 .bf16).view.ref.isScScratch = false}
    {hsrc : ∀ h, ((cM.slice (Rect.unit (s := S8x128x128) off S1x128x128.size (inb h)) (fun _ => rfl)).squeeze S128x128 squeezes_S1x128x128_S128x128).view.WordExact}
    {hdst : cnd → (rowOf rM o).view.WordExact}
    {hsem : ∀ h, DmaTarget.Typed .vmem (.dma (recvS o)) (.remote (Dev.tc (⟨n h, hlt h⟩ : Dev nD) : Thread nD τ) (rowOf rM o) (.dma (sendS o)) (hsc h))}
    (X : CellTallies nD τ sig Unit) {α : Type} {k : PUnit → Prog (TpuEff nD τ sig (Elt F) Λ₀ .tc) α} {Q : α → sProp 𝕄} :
    iprop(records m K ∗ Owes c (X + dueLate c o) ∗ RowSecond m c (ahead c o) ∗ Mid c o)
      ⊢ iprop(((Owes c X ∗ cred (tallyAt (sendCell c o) () N)) -∗ Runs c (k ⟨⟩) Q)
          -∗ Runs c (if h : cnd then .op (.enqueueDma ((cM.slice (Rect.unit (s := S8x128x128) off S1x128x128.size (inb h)) (fun _ => rfl)).squeeze S128x128 squeezes_S1x128x128_S128x128)
              (.remote (Dev.tc (⟨n h, hlt h⟩ : Dev nD) : Thread nD τ) (rowOf rM o) (.dma (sendS o)) (hsc h)) (.dma (recvS o)) (hsrc h) (hdst h) (hsem h)) k
            else k ⟨⟩) Q) := by
  by_cases h : cnd
  · have h4 := hc.mp h
    rw [dif_pos h, rowSecond_high m c _ h4]
    unfold dueLate Mid
    rw [if_neg h4, if_neg h4]
    iintro ⟨#HR, HO, Hs, Ht⟩ Hk
    iapply (send_step m K c o ho (Fin.ext (hn h)) hoff X) $$ [HO Hs Ht]
    · isplitr; · iexact HR
      isplitl [HO]; · iexact HO
      isplitl [Hs] <;> iassumption
    iintro H
    iapply Hk
    iexact H
  · have h4 : (ahead c o).val < 4 := by by_contra h'; exact h (hc.mpr h')
    rw [dif_neg h]
    unfold dueLate Mid
    rw [if_pos h4, if_pos h4, add_zero]
    iintro ⟨#HR, HO, -, Hcr⟩ Hk
    iapply Hk
    isplitl [HO]; · iexact HO
    iexact Hcr

/-! ## The waits for arrivals and for sent rows -/

/-- The arrival under offset `o`: the row received, and the semaphore's counter back at zero. -/
theorem arrive_step (ho : o ≠ 0) {src dst : Memref sig .tc .vmem S128x128 .bf16} (hd : dst.view.dmaCredit = N)
    {h1 : src.view.WordExact} {h2 : dst.view.WordExact}
    {α : Type} {k : PUnit → Prog (TpuEff nD τ sig (Elt F) Λ₀ .tc) α} {Q : α → sProp 𝕄} :
    iprop(records m K ∗ Owes c 0 ∗ atPos ER (recvCell c o) 0 ∅ 0 ∗ cred (tallyAt (recvCell c o) () N))
      ⊢ iprop(((Owes c 0 ∗ semVal (recvCell c o) 0 ∗ rPts c o (recvBuf m c)) -∗ Runs c (k ⟨⟩) Q)
          -∗ Runs c (.op (.waitDma2 (recvS o) src dst h1 h2) k) Q) := by
  unfold Owes
  rw [← hd]
  iintro ⟨#HR, ⟨%W, HO⟩, Hat, Hcr⟩ Hk
  iapply (Rounds.wp_wait_rest_token 𝒱₀ ER (proto m) (c : Thread nD τ) none (κ := K (c, .inr (.inr o)))
      (wpE_waitDma2_eq 𝒱₀ (c : Thread nD τ) none Set.univ) (Set.mem_univ _) () (O := 0) (W := W) (R := 0) (m := 0) (T := ∅)
      (by rw [Nat.zero_add, expect_recv m c o ho, hd])) $$ [Hcr HO Hat]
  · isplitr; · iapply (inv_at m K (c, .inr (.inr o))); iexact HR
    isplitl [Hcr]; · iexact Hcr
    isplitl [HO]; · iexact HO
    isplitr; · rw [MayWait_zero]; iempintro
    iexact Hat
  iintro ⟨HO, Hat, -, Hpay⟩
  ihave Hp := (Entails.of_eq (rest_recv m c o ho)) $$ Hpay
  ihave Hinv := (inv_at m K (c, .inr (.inr o))) $$ HR
  iapply fupd_wp
  imod (Rounds.cell_close ER (proto m) (Set.mem_univ (K (c, .inr (.inr o)))) (fun h => h) (R := 0 + 1) (fun r hr => duties_later m (recvCell c o) r hr)) $$ [Hat Hinv] with Hz
  · isplitl [Hinv]; · iexact Hinv
    iexact Hat
  imodintro
  iapply Hk
  isplitl [HO]; · iexists _; iexact HO
  isplitl [Hz]; · iexact Hz
  iexact Hp

/-- The return of the row sent under offset `o`. -/
theorem return_step (ho : o ≠ 0) {src dst : Memref sig .tc .vmem S128x128 .bf16} (hd : dst.view.dmaCredit = N)
    {h1 : src.view.WordExact} {h2 : dst.view.WordExact}
    {α : Type} {k : PUnit → Prog (TpuEff nD τ sig (Elt F) Λ₀ .tc) α} {Q : α → sProp 𝕄} :
    iprop(records m K ∗ Owes c 0 ∗ atPos ER (sendCell c o) 0 ∅ 0 ∗ cred (tallyAt (sendCell c o) () N))
      ⊢ iprop(((Owes c 0 ∗ semVal (sendCell c o) 0 ∗ sPts c (ahead c o) (sentBuf m c)) -∗ Runs c (k ⟨⟩) Q)
          -∗ Runs c (.op (.waitDma2 (sendS o) src dst h1 h2) k) Q) := by
  unfold Owes
  rw [← hd]
  iintro ⟨#HR, ⟨%W, HO⟩, Hat, Hcr⟩ Hk
  iapply (Rounds.wp_wait_rest_token 𝒱₀ ER (proto m) (c : Thread nD τ) none (κ := K (c, .inr (.inl o)))
      (wpE_waitDma2_eq 𝒱₀ (c : Thread nD τ) none Set.univ) (Set.mem_univ _) () (O := 0) (W := W) (R := 0) (m := 0) (T := ∅)
      (by rw [Nat.zero_add, expect_send m c o ho, hd])) $$ [Hcr HO Hat]
  · isplitr; · iapply (inv_at m K (c, .inr (.inl o))); iexact HR
    isplitl [Hcr]; · iexact Hcr
    isplitl [HO]; · iexact HO
    isplitr; · rw [MayWait_zero]; iempintro
    iexact Hat
  iintro ⟨HO, Hat, -, Hpay⟩
  ihave Hp := (Entails.of_eq (rest_send m c o ho)) $$ Hpay
  ihave Hinv := (inv_at m K (c, .inr (.inl o))) $$ HR
  iapply fupd_wp
  imod (Rounds.cell_close ER (proto m) (Set.mem_univ (K (c, .inr (.inl o)))) (fun h => h) (R := 0 + 1) (fun r hr => duties_later m (sendCell c o) r hr)) $$ [Hat Hinv] with Hz
  · isplitl [Hinv]; · iexact Hinv
    iexact Hat
  imodintro
  iapply Hk
  isplitl [HO]; · iexists _; iexact HO
  isplitl [Hz]; · iexact Hz
  iexact Hp

/-- The semaphores of offset 0, which the kernel never uses, are at zero still. -/
theorem idle_cells : iprop(records m K ∗ atPos ER (sendCell c 0) 0 ∅ 0 ∗ atPos ER (recvCell c 0) 0 ∅ 0)
    ⊢ |={Set.univ}=> iprop(semVal (sendCell c 0) 0 ∗ semVal (recvCell c 0) 0) := by
  iintro ⟨#HR, HaS, HaR⟩
  ihave HiS := (inv_at m K (c, .inr (.inl 0))) $$ HR
  ihave HiR := (inv_at m K (c, .inr (.inr 0))) $$ HR
  imod (Rounds.cell_close ER (proto m) (Set.mem_univ (K (c, .inr (.inl 0)))) (fun h => h) (R := 0) (fun r hr => by
    rcases Nat.eq_zero_or_pos r with rfl | h
    · exact duties_send0 m c
    · exact duties_later m _ r h)) $$ [HaS HiS] with HzS
  · isplitl [HiS] <;> iassumption
  imod (Rounds.cell_close ER (proto m) (Set.mem_univ (K (c, .inr (.inr 0)))) (fun h => h) (R := 0) (fun r hr => by
    rcases Nat.eq_zero_or_pos r with rfl | h
    · exact duties_recv0 m c
    · exact duties_later m _ r h)) $$ [HaR HiR] with HzR
  · isplitl [HiR] <;> iassumption
  imodintro
  isplitl [HzS] <;> iassumption

/-! ## The loads of blocks and the stores of the result -/

/-- The load of the received row `o` gives the block of the device `o` places before; -/
theorem take_step {off : Fin 3 → ℕ} (hoff : off = rowOff o) {inb : ∀ a, off a + S1x128x128.size a ≤ S8x128x128.size a}
    {hl : rM.view.LoadsAt (Rect.unit (s := S8x128x128) off S1x128x128.size inb).toLoadRect}
    {α : Type} {k : Vec F S1x128x128 .bf16 → Prog (TpuEff nD τ sig (Elt F) Λ₀ .tc) α} {Q : α → sProp 𝕄} :
    rPts c o (recvBuf m c)
      ⊢ iprop((rPts c o (recvBuf m c) -∗ Runs c (k (blockFor m (back c o) c)) Q)
          -∗ Runs c (.op (.load rM (Rect.unit (s := S8x128x128) off S1x128x128.size inb).toLoadRect hl) k) Q) := by
  subst hoff
  rw [← read_recv m c o]
  exact wp_load_rect 𝒱₀ (c : Thread nD τ) none Set.univ (m := rM) (r := rowRect o) (S := rowSet o)
    (Eq.subset (View.set_slice_whole cc0_scratch1 (rowRect o)))

/-- that of the device's own row its own block. -/
theorem take_own {off : Fin 3 → ℕ} (hoff : off = rowOff c) {inb : ∀ a, off a + S1x128x128.size a ≤ S8x128x128.size a}
    {hl : cM.view.LoadsAt (Rect.unit (s := S8x128x128) off S1x128x128.size inb).toLoadRect}
    {α : Type} {k : Vec F S1x128x128 .bf16 → Prog (TpuEff nD τ sig (Elt F) Λ₀ .tc) α} {Q : α → sProp 𝕄} :
    sPts c c (sentBuf m c)
      ⊢ iprop((sPts c c (sentBuf m c) -∗ Runs c (k (blockFor m c c)) Q)
          -∗ Runs c (.op (.load cM (Rect.unit (s := S8x128x128) off S1x128x128.size inb).toLoadRect hl) k) Q) := by
  subst hoff
  rw [← read_sent m c c]
  exact wp_load_rect 𝒱₀ (c : Thread nD τ) none Set.univ (m := cM) (r := rowRect c) (S := rowSet c)
    (Eq.subset (View.set_slice_whole cc0_scratch0 (rowRect c)))

/-- The store of the block of source `s` (after the load of what it replaces). -/
theorem put_step (s : Fin 8) (S : Finset (Fin 8)) {off : Fin 2 → ℕ} (hoff : off = outOff s) {inb : ∀ a, off a + S128x128.size a ≤ S1024x128.size a}
    {hl : oM.view.LoadsAt (Rect.unit (s := S1024x128) off S128x128.size inb).toLoadRect}
    {w : FVec F S128x128 .f32} (hw : w = k0_pay12 (blockFor m s c))
    {hx : (oM.access (Rect.unit (s := S1024x128) off S128x128.size inb)).Stores Finset.univ} {hm}
    {α : Type} {k : PUnit → Prog (TpuEff nD τ sig (Elt F) Λ₀ .tc) α} {Q : α → sProp 𝕄} :
    OutPts m c S
      ⊢ iprop((OutPts m c (insert s S) -∗ Runs c (k ⟨⟩) Q)
          -∗ Runs c (.op (.load oM (Rect.unit (s := S1024x128) off S128x128.size inb).toLoadRect hl)
              fun _ => .op (.store oM (Rect.unit (s := S1024x128) off S128x128.size inb) w Finset.univ hx hm) k) Q) := by
  subst hoff hw
  unfold OutPts
  iintro ⟨%f, %hf, H⟩ Hk
  iapply (wp_load 𝒱₀ (c : Thread nD τ) none Set.univ (m := oM) (Finset.subset_univ _)) $$ H; iintro H
  iapply (wp_store 𝒱₀ (c : Thread nD τ) none Set.univ (m := oM) (r := outRect s) (Mk := Finset.univ) (Finset.subset_univ _)) $$ H; iintro H
  iapply Hk
  iexists _
  isplitr; · ipureintro; exact agrees_insert m c s S f hf
  iexact H

end Cert.KernelIdeal.Run

end
-- ==== Proof.Run.KernelIdeal.PartsA.lean ====
/-
# The kernel's parts

What a device holds before and after each stretch of the kernel's body: the signals, the blocks for the devices below 4,
the first round of transfers, the blocks for the others, the second round, the arrivals and the result.
-/
module

public import proofs.«01_k».proof.Proof.Run.KernelIdeal.Steps

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Place → ℕ) (c : Dev nD) (X : CellTallies nD τ sig Unit)

/-! ## What the parts pass on -/

/-- The means to raise the barrier `o` places ahead: the duty there, and the row to lend. -/
def Sig (o : Fin 8) : sProp 𝕄 := iprop(dutyTok ER (barCell (ahead c o)) 0 (opp o) ∗ ∃ f, rPts (F := F) c (opp o) f)
/-- The duties of the transfer at offset `o`. -/
def Tok (o : Fin 8) : sProp 𝕄 := iprop(dutyTok ER (sendCell c o) 0 o ∗ dutyTok ER (recvCell (ahead c o) o) 0 o)
/-- The right to wait for the arrival at offset `o`, and what the wait leaves. -/
def Due (o : Fin 8) : sProp 𝕄 := iprop(atPos ER (recvCell c o) 0 ∅ 0 ∗ cred (tallyAt (recvCell c o) () N))
def Got (o : Fin 8) : sProp 𝕄 := iprop(semVal (recvCell c o) 0 ∗ rPts c o (recvBuf m c))
/-- What the wait for the sent row leaves. -/
def Home (o : Fin 8) : sProp 𝕄 := iprop(semVal (sendCell c o) 0 ∗ sPts c (ahead c o) (sentBuf m c))
/-- The staged operands. -/
def xPts : sProp 𝕄 := ((c : Thread nD τ).loc cc0_stg0_0) ↦{fullShare} (xstg m c)
def wPts : sProp 𝕄 := ((c : Thread nD τ).loc cc0_stg1_0) ↦{fullShare} (wstg m c)

theorem ready_of (o : Fin 8) : iprop(Tok c o ∗ ∃ f, rPts (F := F) (ahead c o) o f) ⊢ Ready (F := F) c o := by
  unfold Tok Ready
  iintro ⟨⟨H1, H2⟩, H3⟩
  isplitl [H1]; · iexact H1
  isplitl [H2] <;> iassumption

theorem zero2 : (![0, 0] : Fin 2 → ℕ) = fun _ => 0 := funext fun a => by fin_cases a <;> rfl
theorem read_x : (xM : Memref sig .tc .vmem S128x1024 .f32).view.readAt (Elt F) (Rect.unit (s := S128x1024) ![0, 0] S128x1024.size inb_S128x1024_S128x1024_0_0).toLoadRect (xstg m c) = xstg m c :=
  Memref.readAt_unit_zero (Elt F) cc0_stg0_0 zero2 _ _

/-! ## The signals -/

theorem part1_run {Q} : iprop(records m K ∗ Owes c (X + dueBar c 2 + dueBar c 1) ∗ Sig c 1 ∗ Sig c 2)
    ⊢ iprop((∀ v2 v30 v31, Owes c X -∗ Q ⟨c, v2, SemArray.scalar (sig.barrier 0 rfl), v30, 8#32, v31⟩)
      -∗ Runs (F := F) c (k0_part1 xM (Memref.isWhole_whole _) wM (Memref.isWhole_whole _) oM (Memref.isWhole_whole _) cM (Memref.isWhole_whole _) rM (Memref.isWhole_whole _) cc0_scratch2 cc0_scratch3) Q) := by
  simp only [k0_part1_eq_skeleton]; unfold k0_part1_skel
  simp only [semSignalWord, semWaitWord, Prog.lift, Prog.bind_op, Prog.bind_ret, Prog.pure_eq_ret, wp_deviceId]
  unfold Sig
  iintro ⟨#HR, HO, ⟨Ht1, Hr1⟩, ⟨Ht2, Hr2⟩⟩ Hk
  iapply (signal_step m K c 1 (by decide) (sig1 c) _) $$ [HO Ht1 Hr1]
  · isplitr; · iexact HR
    isplitl [HO]; · iexact HO
    isplitl [Ht1]; · iexact Ht1
    iexact Hr1
  iintro HO
  iapply (signal_step m K c 2 (by decide) (sig2 c) _) $$ [HO Ht2 Hr2]
  · isplitr; · iexact HR
    isplitl [HO]; · iexact HO
    isplitl [Ht2]; · iexact Ht2
    iexact Hr2
  iintro HO
  iapply runs_ret; iapply Hk; iexact HO

theorem part2_run {v2 v30 v31 Q} : iprop(records m K ∗ Owes c (X + dueBar c 4 + dueBar c 3) ∗ Sig c 3 ∗ Sig c 4)
    ⊢ iprop((∀ v59 v64 v65, Owes c X -∗ Q ⟨v59, v64, v65⟩)
      -∗ Runs (F := F) c (k0_part2 xM (Memref.isWhole_whole _) wM (Memref.isWhole_whole _) oM (Memref.isWhole_whole _) cM (Memref.isWhole_whole _) rM (Memref.isWhole_whole _) cc0_scratch2 cc0_scratch3 c v2 (SemArray.scalar (sig.barrier 0 rfl)) v30 8#32 v31) Q) := by
  simp only [k0_part2_eq_skeleton]; unfold k0_part2_skel
  simp only [semSignalWord, semWaitWord, Prog.lift, Prog.bind_op, Prog.bind_ret, Prog.pure_eq_ret, wp_deviceId]
  unfold Sig
  iintro ⟨#HR, HO, ⟨Ht1, Hr1⟩, ⟨Ht2, Hr2⟩⟩ Hk
  iapply (signal_step m K c 3 (by decide) (sig3 c) _) $$ [HO Ht1 Hr1]
  · isplitr; · iexact HR
    isplitl [HO]; · iexact HO
    isplitl [Ht1]; · iexact Ht1
    iexact Hr1
  iintro HO
  iapply (signal_step m K c 4 (by decide) (sig4 c) _) $$ [HO Ht2 Hr2]
  · isplitr; · iexact HR
    isplitl [HO]; · iexact HO
    isplitl [Ht2]; · iexact Ht2
    iexact Hr2
  iintro HO
  iapply runs_ret; iapply Hk; iexact HO

theorem part3_run {v2 v59 v64 v65 Q} : iprop(records m K ∗ Owes c (X + dueBar c 7 + dueBar c 6 + dueBar c 5) ∗ Sig c 5 ∗ Sig c 6 ∗ Sig c 7 ∗ xPts m c)
    ⊢ iprop(((Owes c X ∗ xPts m c) -∗ Q (k0_pay1 (xstg m c)))
      -∗ Runs (F := F) c (k0_part3 xM (Memref.isWhole_whole _) wM (Memref.isWhole_whole _) oM (Memref.isWhole_whole _) cM (Memref.isWhole_whole _) rM (Memref.isWhole_whole _) cc0_scratch2 cc0_scratch3 c v2 (SemArray.scalar (sig.barrier 0 rfl)) v59 v64 v65) Q) := by
  simp only [k0_part3_eq_skeleton]; unfold k0_part3_skel
  simp only [semSignalWord, semWaitWord, Prog.lift, Prog.bind_op, Prog.bind_ret, Prog.pure_eq_ret, wp_deviceId]
  unfold Sig xPts
  iintro ⟨#HR, HO, ⟨Ht1, Hr1⟩, ⟨Ht2, Hr2⟩, ⟨Ht3, Hr3⟩, Hx⟩ Hk
  iapply (signal_step m K c 5 (by decide) (sig5 c) _) $$ [HO Ht1 Hr1]
  · isplitr; · iexact HR
    isplitl [HO]; · iexact HO
    isplitl [Ht1]; · iexact Ht1
    iexact Hr1
  iintro HO
  iapply (signal_step m K c 6 (by decide) (sig6 c) _) $$ [HO Ht2 Hr2]
  · isplitr; · iexact HR
    isplitl [HO]; · iexact HO
    isplitl [Ht2]; · iexact Ht2
    iexact Hr2
  iintro HO
  iapply (signal_step m K c 7 (by decide) (sig7 c) _) $$ [HO Ht3 Hr3]
  · isplitr; · iexact HR
    isplitl [HO]; · iexact HO
    isplitl [Ht3]; · iexact Ht3
    iexact Hr3
  iintro HO
  iapply (wp_load 𝒱₀ (c : Thread nD τ) none Set.univ (m := xM) (Finset.subset_univ _)) $$ Hx; iintro Hx
  rw [read_x]
  iapply runs_ret; iapply Hk
  isplitl [HO] <;> iassumption

/-! ## The blocks for the devices below 4 -/

theorem part4_run {Q} : iprop(wPts m c ∗ (∃ f, sPts c 0 f) ∗ (∃ f, sPts c 1 f) ∗ (∃ f, sPts c 2 f) ∗ (∃ f, sPts c 3 f))
    ⊢ iprop(((wPts m c ∗ sPts c 0 (sentBuf m c) ∗ sPts c 1 (sentBuf m c) ∗ sPts c 2 (sentBuf m c) ∗ sPts c 3 (sentBuf m c)) -∗ Q ⟨⟩)
      -∗ Runs (F := F) c (k0_part4 xM (Memref.isWhole_whole _) wM (Memref.isWhole_whole _) oM (Memref.isWhole_whole _) cM (Memref.isWhole_whole _) rM (Memref.isWhole_whole _) cc0_scratch2 cc0_scratch3 (k0_pay1 (xstg m c))) Q) := by
  simp only [k0_part4_eq_skeleton]; unfold k0_part4_skel
  simp only [semSignalWord, semWaitWord, Prog.lift, Prog.bind_op, Prog.bind_ret, Prog.pure_eq_ret, wp_deviceId]
  unfold wPts
  iintro ⟨Hw, H0, H1, H2, H3⟩ Hk
  iapply (wp_load 𝒱₀ (c : Thread nD τ) none Set.univ (m := wM) (Finset.subset_univ _)) $$ Hw; iintro Hw
  iapply (fill_step m c 0 rfl rfl) $$ H0; iintro H0
  iapply (fill_step m c 1 rfl rfl) $$ H1; iintro H1
  iapply (fill_step m c 2 rfl rfl) $$ H2; iintro H2
  iapply (fill_step m c 3 rfl rfl) $$ H3; iintro H3
  iapply runs_ret; iapply Hk
  isplitl [Hw]; · iexact Hw
  isplitl [H0]; · iexact H0
  isplitl [H1]; · iexact H1
  isplitl [H2] <;> iassumption

/-! ## The barrier and the first round -/

theorem part5_run {v2 Q} : iprop(records m K ∗ levAts L lv ∗ Owes c (oweSends c) ∗ atPos ER (barCell c) 0 ∅ 0 ∗ cred (tallyAt (barCell c) () 7)
      ∗ (Tok c 1 ∗ Tok c 2 ∗ Tok c 3 ∗ Tok c 4 ∗ Tok c 5 ∗ Tok c 6 ∗ Tok c 7) ∗ RowFirst m c (ahead c 2) ∗ RowFirst m c (ahead c 6))
    ⊢ iprop((∀ v161 v162, (Owes c (oweLate c + dueEarly c 4 + dueEarly c 1 + dueEarly c 7 + dueEarly c 5 + dueEarly c 3) ∗ semVal (barCell c) 0
          ∗ (Ready c 1 ∗ Ready c 3 ∗ Ready c 4 ∗ Ready c 5 ∗ Ready c 7) ∗ (RowMid m c (ahead c 2) ∗ Mid c 2) ∗ (RowMid m c (ahead c 6) ∗ Mid c 6))
          -∗ Q ⟨v161, 8#32, v162⟩)
      -∗ Runs (F := F) c (k0_part5 xM (Memref.isWhole_whole _) wM (Memref.isWhole_whole _) oM (Memref.isWhole_whole _) cM (Memref.isWhole_whole _) rM (Memref.isWhole_whole _) cc0_scratch2 cc0_scratch3 c v2 (SemArray.scalar (sig.barrier 0 rfl))) Q) := by
  simp only [k0_part5_eq_skeleton]; unfold k0_part5_skel
  simp only [semSignalWord, semWaitWord, Prog.lift, Prog.bind_op, Prog.bind_ret, Prog.pure_eq_ret, wp_deviceId]
  iintro ⟨#HR, #Hlev, HO, Hat, Hcr, ⟨Ht1, Ht2, Ht3, Ht4, Ht5, Ht6, Ht7⟩, Hr2, Hr6⟩ Hk
  iapply (barrier_step m K c) $$ [HO Hat Hcr]
  · isplitr; · iexact HR
    isplitr; · iexact Hlev
    isplitl [HO]; · iexact HO
    isplitl [Hat] <;> iassumption
  iintro ⟨HO, Hz, Hl1, Hl2, Hl3, Hl4, Hl5, Hl6, Hl7⟩
  unfold oweSends
  iapply (early_step m K c 2 (by decide) (early2 c) (fun _ => edev2 c) (eoff2 c) _) $$ [HO Hr2 Ht2 Hl2]
  · isplitr; · iexact HR
    isplitl [HO]; · iexact HO
    isplitl [Hr2]; · iexact Hr2
    iapply (ready_of c 2); isplitl [Ht2] <;> iassumption
  iintro ⟨HO, Hr2, Hm2⟩
  iapply (early_step m K c 6 (by decide) (early6 c) (fun _ => edev6 c) (eoff6 c) _) $$ [HO Hr6 Ht6 Hl6]
  · isplitr; · iexact HR
    isplitl [HO]; · iexact HO
    isplitl [Hr6]; · iexact Hr6
    iapply (ready_of c 6); isplitl [Ht6] <;> iassumption
  iintro ⟨HO, Hr6, Hm6⟩
  iapply runs_ret; iapply Hk
  isplitl [HO]; · iexact HO
  isplitl [Hz]; · iexact Hz
  isplitl [Ht1 Hl1 Ht3 Hl3 Ht4 Hl4 Ht5 Hl5 Ht7 Hl7]
  · isplitl [Ht1 Hl1]; · iapply (ready_of c 1); isplitl [Ht1] <;> iassumption
    isplitl [Ht3 Hl3]; · iapply (ready_of c 3); isplitl [Ht3] <;> iassumption
    isplitl [Ht4 Hl4]; · iapply (ready_of c 4); isplitl [Ht4] <;> iassumption
    isplitl [Ht5 Hl5]; · iapply (ready_of c 5); isplitl [Ht5] <;> iassumption
    iapply (ready_of c 7); isplitl [Ht7] <;> iassumption
  isplitl [Hr2 Hm2]; · isplitl [Hr2] <;> iassumption
  isplitl [Hr6] <;> iassumption

end Cert.KernelIdeal.Run

end
-- ==== Proof.Run.KernelIdeal.PartsB.lean ====
/-
# The kernel's parts, continued

The rest of the first round of transfers, the blocks for the devices from 4 on, and the second round, ending with the
device's own block put into the result.
-/
module

public import proofs.«01_k».proof.Proof.Run.KernelIdeal.PartsA

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Place → ℕ) (c : Dev nD) (X : CellTallies nD τ sig Unit)

/-! ## Rows numbered by offset and by device -/

/-- A chain over the eight devices. -/
theorem chain8 (Φ : Fin 8 → sProp 𝕄) : bigSep Finset.univ Φ = iprop(Φ 0 ∗ Φ 1 ∗ Φ 2 ∗ Φ 3 ∗ Φ 4 ∗ Φ 5 ∗ Φ 6 ∗ Φ 7) := by
  rw [bigSep_univ_eq_bigSepL [0, 1, 2, 3, 4, 5, 6, 7] (by decide) (by decide) Φ]
  simp only [bigSepL_cons_cons, bigSepL_singleton]
  rfl
/-- The rows numbered by offset are the rows numbered by device. -/
theorem rows_eq (Φ : Fin 8 → sProp 𝕄) :
    iprop(Φ c ∗ Φ (ahead c 1) ∗ Φ (ahead c 2) ∗ Φ (ahead c 3) ∗ Φ (ahead c 4) ∗ Φ (ahead c 5) ∗ Φ (ahead c 6) ∗ Φ (ahead c 7))
      = iprop(Φ 0 ∗ Φ 1 ∗ Φ 2 ∗ Φ 3 ∗ Φ 4 ∗ Φ 5 ∗ Φ 6 ∗ Φ 7) := by
  have h := (chain8 (fun o => Φ (ahead c o))).symm.trans (((bigSep_univ_equiv (aheadAt c) Φ).symm).trans (chain8 Φ))
  rw [ahead_zero] at h; exact h
/-- Between the rounds: the rows from 4 on are free to be filled. -/
theorem mid_rows : iprop(RowMid m c c ∗ RowMid m c (ahead c 1) ∗ RowMid m c (ahead c 2) ∗ RowMid m c (ahead c 3) ∗ RowMid m c (ahead c 4)
      ∗ RowMid m c (ahead c 5) ∗ RowMid m c (ahead c 6) ∗ RowMid m c (ahead c 7))
    ⊢ iprop(RowMid m c 0 ∗ RowMid m c 1 ∗ RowMid m c 2 ∗ RowMid m c 3 ∗ (∃ f, sPts c 4 f) ∗ (∃ f, sPts c 5 f) ∗ (∃ f, sPts c 6 f) ∗ ∃ f, sPts c 7 f) := by
  rw [← rowMid_high m c 4 (by decide), ← rowMid_high m c 5 (by decide), ← rowMid_high m c 6 (by decide), ← rowMid_high m c 7 (by decide)]
  exact Entails.of_eq (rows_eq c (RowMid m c))
/-- Before the second round: they are filled, and the device's own row is at hand whichever it is. -/
theorem second_rows : iprop(RowMid m c 0 ∗ RowMid m c 1 ∗ RowMid m c 2 ∗ RowMid m c 3 ∗ sPts c 4 (sentBuf m c) ∗ sPts c 5 (sentBuf m c)
      ∗ sPts c 6 (sentBuf m c) ∗ sPts c 7 (sentBuf m c))
    ⊢ iprop(sPts c c (sentBuf m c) ∗ RowSecond m c (ahead c 1) ∗ RowSecond m c (ahead c 2) ∗ RowSecond m c (ahead c 3) ∗ RowSecond m c (ahead c 4)
      ∗ RowSecond m c (ahead c 5) ∗ RowSecond m c (ahead c 6) ∗ RowSecond m c (ahead c 7)) := by
  rw [rowMid_low m c 0 (by decide), rowMid_low m c 1 (by decide), rowMid_low m c 2 (by decide), rowMid_low m c 3 (by decide),
    ← rowSecond_high m c 4 (by decide), ← rowSecond_high m c 5 (by decide), ← rowSecond_high m c 6 (by decide), ← rowSecond_high m c 7 (by decide),
    ← rowSecond_own m c]
  exact Entails.of_eq (rows_eq c (RowSecond m c)).symm

/-! ## The rest of the first round -/

theorem part6_run {v2 v161 v162 Q} : iprop(records m K ∗ Owes c (X + dueEarly c 5 + dueEarly c 3)
      ∗ (RowFirst m c (ahead c 3) ∗ Ready c 3) ∗ (RowFirst m c (ahead c 5) ∗ Ready c 5))
    ⊢ iprop((∀ v191 v192 v193 z, (Owes c X ∗ (RowMid m c (ahead c 3) ∗ Mid c 3) ∗ (RowMid m c (ahead c 5) ∗ Mid c 5)) -∗ Q ⟨v191, v192, v193, z⟩)
      -∗ Runs (F := F) c (k0_part6 xM (Memref.isWhole_whole _) wM (Memref.isWhole_whole _) oM (Memref.isWhole_whole _) cM (Memref.isWhole_whole _) rM (Memref.isWhole_whole _) cc0_scratch2 cc0_scratch3 c v2 v161 8#32 v162) Q) := by
  simp only [k0_part6_eq_skeleton]; unfold k0_part6_skel
  simp only [semSignalWord, semWaitWord, Prog.lift, Prog.bind_op, Prog.bind_ret, Prog.pure_eq_ret, wp_deviceId]
  iintro ⟨#HR, HO, ⟨Hr1, Ht1⟩, ⟨Hr2, Ht2⟩⟩ Hk
  iapply (early_step m K c 3 (by decide) (early3 c) (fun _ => edev3 c) (eoff3 c) _) $$ [HO Hr1 Ht1]
  · isplitr; · iexact HR
    isplitl [HO]; · iexact HO
    isplitl [Hr1]; · iexact Hr1
    iexact Ht1
  iintro ⟨HO, Hr1, Ht1⟩
  iapply (early_step m K c 5 (by decide) (early5 c) (fun _ => edev5 c) (eoff5 c) _) $$ [HO Hr2 Ht2]
  · isplitr; · iexact HR
    isplitl [HO]; · iexact HO
    isplitl [Hr2]; · iexact Hr2
    iexact Ht2
  iintro ⟨HO, Hr2, Ht2⟩
  iapply runs_ret; iapply Hk
  isplitl [HO]; · iexact HO
  isplitl [Hr1 Ht1]; · isplitl [Hr1] <;> iassumption
  isplitl [Hr2] <;> iassumption

theorem part7_run {v2 v191 v192 v193 z Q} : iprop(records m K ∗ Owes c (X + dueEarly c 1 + dueEarly c 7)
      ∗ (RowFirst m c (ahead c 7) ∗ Ready c 7) ∗ (RowFirst m c (ahead c 1) ∗ Ready c 1))
    ⊢ iprop((∀ v220 v225 v226, (Owes c X ∗ (RowMid m c (ahead c 7) ∗ Mid c 7) ∗ (RowMid m c (ahead c 1) ∗ Mid c 1)) -∗ Q ⟨v220, v225, v226⟩)
      -∗ Runs (F := F) c (k0_part7 xM (Memref.isWhole_whole _) wM (Memref.isWhole_whole _) oM (Memref.isWhole_whole _) cM (Memref.isWhole_whole _) rM (Memref.isWhole_whole _) cc0_scratch2 cc0_scratch3 c v2 v191 v192 v193 z) Q) := by
  simp only [k0_part7_eq_skeleton]; unfold k0_part7_skel
  simp only [semSignalWord, semWaitWord, Prog.lift, Prog.bind_op, Prog.bind_ret, Prog.pure_eq_ret, wp_deviceId]
  iintro ⟨#HR, HO, ⟨Hr1, Ht1⟩, ⟨Hr2, Ht2⟩⟩ Hk
  iapply (early_step m K c 7 (by decide) (early7 c) (fun _ => edev7 c) (eoff7 c) _) $$ [HO Hr1 Ht1]
  · isplitr; · iexact HR
    isplitl [HO]; · iexact HO
    isplitl [Hr1]; · iexact Hr1
    iexact Ht1
  iintro ⟨HO, Hr1, Ht1⟩
  iapply (early_step m K c 1 (by decide) (early1 c) (fun _ => edev1 c) (eoff1 c) _) $$ [HO Hr2 Ht2]
  · isplitr; · iexact HR
    isplitl [HO]; · iexact HO
    isplitl [Hr2]; · iexact Hr2
    iexact Ht2
  iintro ⟨HO, Hr2, Ht2⟩
  iapply runs_ret; iapply Hk
  isplitl [HO]; · iexact HO
  isplitl [Hr1 Ht1]; · isplitl [Hr1] <;> iassumption
  isplitl [Hr2] <;> iassumption

theorem read_whi : (wM : Memref sig .tc .vmem S1024x1024 .f32).view.readAt (Elt F)
    (Rect.unit (s := S1024x1024) ![0, 512] S1024x512.size inb_S1024x1024_S1024x512_0_512).toLoadRect (wstg m c) = whi m c := rfl

/-- Between the rounds the rows as numbered by offset are the rows as numbered by device: the rows from 4 on are free to be filled. -/
theorem part8_run {v220 v225 v226 Q} : iprop(records m K ∗ Owes c (X + dueEarly c 4) ∗ (RowFirst m c (ahead c 4) ∗ Ready c 4) ∗ wPts m c
      ∗ (RowMid m c c ∗ RowMid m c (ahead c 1) ∗ RowMid m c (ahead c 2) ∗ RowMid m c (ahead c 3) ∗ RowMid m c (ahead c 5) ∗ RowMid m c (ahead c 6) ∗ RowMid m c (ahead c 7)))
    ⊢ iprop(((Owes c X ∗ Mid c 4 ∗ wPts m c
          ∗ (RowMid m c 0 ∗ RowMid m c 1 ∗ RowMid m c 2 ∗ RowMid m c 3 ∗ sPts c 4 (sentBuf m c) ∗ sPts c 5 (sentBuf m c) ∗ sPts c 6 (sentBuf m c) ∗ ∃ f, sPts c 7 f))
          -∗ Q (k0_pay7 (k0_pay1 (xstg m c)) (whi m c)))
      -∗ Runs (F := F) c (k0_part8 xM (Memref.isWhole_whole _) wM (Memref.isWhole_whole _) oM (Memref.isWhole_whole _) cM (Memref.isWhole_whole _) rM (Memref.isWhole_whole _) cc0_scratch2 cc0_scratch3 c (k0_pay1 (xstg m c)) v220 v225 v226) Q) := by
  simp only [k0_part8_eq_skeleton]; unfold k0_part8_skel
  simp only [semSignalWord, semWaitWord, Prog.lift, Prog.bind_op, Prog.bind_ret, Prog.pure_eq_ret, wp_deviceId]
  iintro ⟨#HR, HO, ⟨Hr4, Ht4⟩, Hw, ⟨Hr0, Hr1, Hr2, Hr3, Hr5, Hr6, Hr7⟩⟩ Hk
  iapply (early_step m K c 4 (by decide) (early4 c) (fun _ => edev4 c) (eoff4 c) _) $$ [HO Hr4 Ht4]
  · isplitr; · iexact HR
    isplitl [HO]; · iexact HO
    isplitl [Hr4]; · iexact Hr4
    iexact Ht4
  iintro ⟨HO, Hr4, Ht4⟩
  ihave Hrows := (mid_rows m c) $$ [Hr0 Hr1 Hr2 Hr3 Hr4 Hr5 Hr6 Hr7]
  · isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6] <;> iassumption
  icases Hrows with ⟨H0, H1, H2, H3, H4, H5, H6, H7⟩
  unfold wPts
  iapply (wp_load 𝒱₀ (c : Thread nD τ) none Set.univ (m := wM) (Finset.subset_univ _)) $$ Hw; iintro Hw
  rw [read_whi m c]
  iapply (fill_step m c 4 rfl rfl) $$ H4; iintro H4
  iapply (fill_step m c 5 rfl rfl) $$ H5; iintro H5
  iapply (fill_step m c 6 rfl rfl) $$ H6; iintro H6
  iapply runs_ret; iapply Hk
  isplitl [HO]; · iexact HO
  isplitl [Ht4]; · iexact Ht4
  isplitl [Hw]; · iexact Hw
  isplitl [H0]; · iexact H0
  isplitl [H1]; · iexact H1
  isplitl [H2]; · iexact H2
  isplitl [H3]; · iexact H3
  isplitl [H4]; · iexact H4
  isplitl [H5]; · iexact H5
  isplitl [H6] <;> iassumption

/-! ## The second round -/

theorem part9_run {v2 Q} : iprop(records m K ∗ Owes c (X + dueLate c 2) ∗ Mid c 2
      ∗ (RowMid m c 0 ∗ RowMid m c 1 ∗ RowMid m c 2 ∗ RowMid m c 3 ∗ sPts c 4 (sentBuf m c) ∗ sPts c 5 (sentBuf m c) ∗ sPts c 6 (sentBuf m c) ∗ ∃ f, sPts c 7 f))
    ⊢ iprop((∀ v291 v293, (Owes c X ∗ cred (tallyAt (sendCell c 2) () N)
          ∗ (sPts c c (sentBuf m c) ∗ RowSecond m c (ahead c 1) ∗ RowSecond m c (ahead c 3) ∗ RowSecond m c (ahead c 4) ∗ RowSecond m c (ahead c 5) ∗ RowSecond m c (ahead c 6) ∗ RowSecond m c (ahead c 7)))
          -∗ Q ⟨v291, v293⟩)
      -∗ Runs (F := F) c (k0_part9 xM (Memref.isWhole_whole _) wM (Memref.isWhole_whole _) oM (Memref.isWhole_whole _) cM (Memref.isWhole_whole _) rM (Memref.isWhole_whole _) cc0_scratch2 cc0_scratch3 c v2 (k0_pay7 (k0_pay1 (xstg m c)) (whi m c))) Q) := by
  simp only [k0_part9_eq_skeleton]; unfold k0_part9_skel
  simp only [semSignalWord, semWaitWord, Prog.lift, Prog.bind_op, Prog.bind_ret, Prog.pure_eq_ret, wp_deviceId]
  iintro ⟨#HR, HO, Ht, ⟨H0, H1, H2, H3, H4, H5, H6, H7⟩⟩ Hk
  iapply (fill_step m c 7 rfl rfl) $$ H7; iintro H7
  ihave Hrows := (second_rows m c) $$ [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6] <;> iassumption
  icases Hrows with ⟨H0, H1, H2, H3, H4, H5, H6, H7⟩
  iapply (late_step m K c 2 (by decide) (late2 c) (fun _ => ldev2 c) (loff2 c) _) $$ [HO H2 Ht]
  · isplitr; · iexact HR
    isplitl [HO]; · iexact HO
    isplitl [H2]; · iexact H2
    iexact Ht
  iintro ⟨HO, Ht⟩
  iapply runs_ret; iapply Hk
  isplitl [HO]; · iexact HO
  isplitl [Ht]; · iexact Ht
  isplitl [H0]; · iexact H0
  isplitl [H1]; · iexact H1
  isplitl [H3]; · iexact H3
  isplitl [H4]; · iexact H4
  isplitl [H5]; · iexact H5
  isplitl [H6] <;> iassumption

theorem part10_run {v2 v291 v293 Q} : iprop(records m K ∗ Owes c (X + dueLate c 5 + dueLate c 3 + dueLate c 6)
      ∗ (RowSecond m c (ahead c 6) ∗ Mid c 6) ∗ (RowSecond m c (ahead c 3) ∗ Mid c 3) ∗ (RowSecond m c (ahead c 5) ∗ Mid c 5))
    ⊢ iprop((∀ v323 z, (Owes c X ∗ cred (tallyAt (sendCell c 6) () N) ∗ cred (tallyAt (sendCell c 3) () N) ∗ cred (tallyAt (sendCell c 5) () N)) -∗ Q ⟨v323, z⟩)
      -∗ Runs (F := F) c (k0_part10 xM (Memref.isWhole_whole _) wM (Memref.isWhole_whole _) oM (Memref.isWhole_whole _) cM (Memref.isWhole_whole _) rM (Memref.isWhole_whole _) cc0_scratch2 cc0_scratch3 c v2 v291 v293) Q) := by
  simp only [k0_part10_eq_skeleton]; unfold k0_part10_skel
  simp only [semSignalWord, semWaitWord, Prog.lift, Prog.bind_op, Prog.bind_ret, Prog.pure_eq_ret, wp_deviceId]
  iintro ⟨#HR, HO, ⟨Hr1, Ht1⟩, ⟨Hr2, Ht2⟩, ⟨Hr3, Ht3⟩⟩ Hk
  iapply (late_step m K c 6 (by decide) (late6 c) (fun _ => ldev6 c) (loff6 c) _) $$ [HO Hr1 Ht1]
  · isplitr; · iexact HR
    isplitl [HO]; · iexact HO
    isplitl [Hr1]; · iexact Hr1
    iexact Ht1
  iintro ⟨HO, Ht1⟩
  iapply (late_step m K c 3 (by decide) (late3 c) (fun _ => ldev3 c) (loff3 c) _) $$ [HO Hr2 Ht2]
  · isplitr; · iexact HR
    isplitl [HO]; · iexact HO
    isplitl [Hr2]; · iexact Hr2
    iexact Ht2
  iintro ⟨HO, Ht2⟩
  iapply (late_step m K c 5 (by decide) (late5 c) (fun _ => ldev5 c) (loff5 c) _) $$ [HO Hr3 Ht3]
  · isplitr; · iexact HR
    isplitl [HO]; · iexact HO
    isplitl [Hr3]; · iexact Hr3
    iexact Ht3
  iintro ⟨HO, Ht3⟩
  iapply runs_ret; iapply Hk
  isplitl [HO]; · iexact HO
  isplitl [Ht1]; · iexact Ht1
  isplitl [Ht2] <;> iassumption

theorem part11_run {v2 v323 z Q} : iprop(records m K ∗ Owes c (X + dueLate c 1 + dueLate c 7)
      ∗ (RowSecond m c (ahead c 7) ∗ Mid c 7) ∗ (RowSecond m c (ahead c 1) ∗ Mid c 1))
    ⊢ iprop((∀ v353 v354 z', (Owes c X ∗ cred (tallyAt (sendCell c 7) () N) ∗ cred (tallyAt (sendCell c 1) () N)) -∗ Q ⟨v353, v354, z'⟩)
      -∗ Runs (F := F) c (k0_part11 xM (Memref.isWhole_whole _) wM (Memref.isWhole_whole _) oM (Memref.isWhole_whole _) cM (Memref.isWhole_whole _) rM (Memref.isWhole_whole _) cc0_scratch2 cc0_scratch3 c v2 v323 z) Q) := by
  simp only [k0_part11_eq_skeleton]; unfold k0_part11_skel
  simp only [semSignalWord, semWaitWord, Prog.lift, Prog.bind_op, Prog.bind_ret, Prog.pure_eq_ret, wp_deviceId]
  iintro ⟨#HR, HO, ⟨Hr1, Ht1⟩, ⟨Hr2, Ht2⟩⟩ Hk
  iapply (late_step m K c 7 (by decide) (late7 c) (fun _ => ldev7 c) (loff7 c) _) $$ [HO Hr1 Ht1]
  · isplitr; · iexact HR
    isplitl [HO]; · iexact HO
    isplitl [Hr1]; · iexact Hr1
    iexact Ht1
  iintro ⟨HO, Ht1⟩
  iapply (late_step m K c 1 (by decide) (late1 c) (fun _ => ldev1 c) (loff1 c) _) $$ [HO Hr2 Ht2]
  · isplitr; · iexact HR
    isplitl [HO]; · iexact HO
    isplitl [Hr2]; · iexact Hr2
    iexact Ht2
  iintro ⟨HO, Ht2⟩
  iapply runs_ret; iapply Hk
  isplitl [HO]; · iexact HO
  isplitl [Ht1] <;> iassumption

/-- The last transfer, and the device's own block put into the result. -/
theorem part12_run {v2 v353 v354 z Q} : iprop(records m K ∗ Owes c (X + dueLate c 4)
      ∗ (RowSecond m c (ahead c 4) ∗ Mid c 4) ∗ sPts c c (sentBuf m c) ∗ OutPts m c ∅)
    ⊢ iprop((∀ v382, (Owes c X ∗ cred (tallyAt (sendCell c 4) () N) ∗ sPts c c (sentBuf m c) ∗ OutPts m c (insert c ∅)) -∗ Q v382)
      -∗ Runs (F := F) c (k0_part12 xM (Memref.isWhole_whole _) wM (Memref.isWhole_whole _) oM (Memref.isWhole_whole _) cM (Memref.isWhole_whole _) rM (Memref.isWhole_whole _) cc0_scratch2 cc0_scratch3 c v2 v353 v354 z) Q) := by
  simp only [k0_part12_eq_skeleton]; unfold k0_part12_skel
  simp only [semSignalWord, semWaitWord, Prog.lift, Prog.bind_op, Prog.bind_ret, Prog.pure_eq_ret, wp_deviceId]
  iintro ⟨#HR, HO, ⟨Hr1, Ht1⟩, Hown, Hout⟩ Hk
  iapply (late_step m K c 4 (by decide) (late4 c) (fun _ => ldev4 c) (loff4 c) _) $$ [HO Hr1 Ht1]
  · isplitr; · iexact HR
    isplitl [HO]; · iexact HO
    isplitl [Hr1]; · iexact Hr1
    iexact Ht1
  iintro ⟨HO, Ht1⟩
  iapply (take_own m c (k0_off15_eq c)) $$ Hown; iintro Hown
  iapply (put_step m c c ∅ (k0_off16_eq c) rfl) $$ Hout; iintro Hout
  iapply runs_ret; iapply Hk
  isplitl [HO]; · iexact HO
  isplitl [Ht1]; · iexact Ht1
  isplitl [Hown] <;> iassumption

end Cert.KernelIdeal.Run

end
-- ==== Proof.Run.KernelIdeal.PartsC.lean ====
/-
# The kernel's parts, concluded

The arrivals, each followed by its block's store into the result, and the return of the rows sent.
-/
module

public import proofs.«01_k».proof.Proof.Run.KernelIdeal.PartsB

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Place → ℕ) (c : Dev nD) (S₀ : Finset (Fin 8))

/-! ## One arrival -/

/-- Wait for the arrival at offset `o` and load the row. -/
theorem receive (o : Fin 8) (ho : o ≠ 0) {src : Memref sig .tc .vmem S128x128 .bf16}
    {h1 : src.view.WordExact} {h2 : (rowOf rM o).view.WordExact} {off : Fin 3 → ℕ} (hoff : off = rowOff o) {inb : ∀ a, off a + S1x128x128.size a ≤ S8x128x128.size a}
    {hl : rM.view.LoadsAt (Rect.unit (s := S8x128x128) off S1x128x128.size inb).toLoadRect}
    {α : Type} {k : Vec F S1x128x128 .bf16 → Prog (TpuEff nD τ sig (Elt F) Λ₀ .tc) α} {Q : α → sProp 𝕄} :
    iprop(records m K ∗ Owes c 0 ∗ Due c o)
      ⊢ iprop(((Owes c 0 ∗ Got m c o) -∗ Runs c (k (blockFor m (back c o) c)) Q)
          -∗ Runs c (.op (.waitDma2 (recvS o) src (rowOf rM o) h1 h2) fun _ => .op (.load rM (Rect.unit (s := S8x128x128) off S1x128x128.size inb).toLoadRect hl) k) Q) := by
  unfold Due Got
  iintro ⟨#HR, HO, Hat, Hcr⟩ Hk
  iapply (arrive_step m K c o ho (credit_r o)) $$ [HO Hat Hcr]
  · isplitr; · iexact HR
    isplitl [HO]; · iexact HO
    isplitl [Hat]; · iexact Hat
    iexact Hcr
  iintro ⟨HO, Hz, Hr⟩
  iapply (take_step m c o hoff) $$ Hr; iintro Hr
  iapply Hk
  isplitl [HO]; · iexact HO
  isplitl [Hz] <;> iassumption

/-! ## The arrivals -/

theorem part13_run {v2 v382 Q} : iprop(records m K ∗ Owes c 0 ∗ Due c 1 ∗ Due c 2 ∗ OutPts m c S₀)
    ⊢ iprop((∀ v407, (Owes c 0 ∗ Got m c 1 ∗ Got m c 2 ∗ OutPts m c (insert (back c 1) S₀)) -∗ Q ⟨v407, blockFor m (back c 2) c⟩)
      -∗ Runs (F := F) c (k0_part13 xM (Memref.isWhole_whole _) wM (Memref.isWhole_whole _) oM (Memref.isWhole_whole _) cM (Memref.isWhole_whole _) rM (Memref.isWhole_whole _) cc0_scratch2 cc0_scratch3 c v2 v382) Q) := by
  simp only [k0_part13_eq_skeleton]; unfold k0_part13_skel
  simp only [semSignalWord, semWaitWord, Prog.lift, Prog.bind_op, Prog.bind_ret, Prog.pure_eq_ret, wp_deviceId]
  iintro ⟨#HR, HO, Hd1, Hd2, Hout⟩ Hk
  iapply (receive m K c 1 (by decide) rfl) $$ [HO Hd1]
  · isplitr; · iexact HR
    isplitl [HO]; · iexact HO
    iexact Hd1
  iintro ⟨HO, Hd1⟩
  iapply (put_step m c (back c 1) _ (off17_1 c) rfl) $$ Hout; iintro Hout
  iapply (receive m K c 2 (by decide) rfl) $$ [HO Hd2]
  · isplitr; · iexact HR
    isplitl [HO]; · iexact HO
    iexact Hd2
  iintro ⟨HO, Hd2⟩
  iapply runs_ret; iapply Hk
  isplitl [HO]; · iexact HO
  isplitl [Hd1]; · iexact Hd1
  isplitl [Hd2]; · iexact Hd2
  iexact Hout

theorem part14_run {v2 v407 Q} : iprop(records m K ∗ Owes c 0 ∗ Due c 3 ∗ OutPts m c S₀)
    ⊢ iprop((∀ v447 z, (Owes c 0 ∗ Got m c 3 ∗ OutPts m c (insert (back c 3) (insert (back c 2) S₀))) -∗ Q ⟨v447, z⟩)
      -∗ Runs (F := F) c (k0_part14 xM (Memref.isWhole_whole _) wM (Memref.isWhole_whole _) oM (Memref.isWhole_whole _) cM (Memref.isWhole_whole _) rM (Memref.isWhole_whole _) cc0_scratch2 cc0_scratch3 c v2 v407 (blockFor m (back c 2) c)) Q) := by
  simp only [k0_part14_eq_skeleton]; unfold k0_part14_skel
  simp only [semSignalWord, semWaitWord, Prog.lift, Prog.bind_op, Prog.bind_ret, Prog.pure_eq_ret, wp_deviceId]
  iintro ⟨#HR, HO, Hd3, Hout⟩ Hk
  iapply (put_step m c (back c 2) _ (off17_2 c) rfl) $$ Hout; iintro Hout
  iapply (receive m K c 3 (by decide) rfl) $$ [HO Hd3]
  · isplitr; · iexact HR
    isplitl [HO]; · iexact HO
    iexact Hd3
  iintro ⟨HO, Hd3⟩
  iapply (put_step m c (back c 3) _ (off17_3 c) rfl) $$ Hout; iintro Hout
  iapply runs_ret; iapply Hk
  isplitl [HO]; · iexact HO
  isplitl [Hd3]; · iexact Hd3
  iexact Hout

theorem part15_run {v2 v447 z Q} : iprop(records m K ∗ Owes c 0 ∗ Due c 4 ∗ OutPts m c S₀)
    ⊢ iprop((∀ v474 v475 v476 v477 v478, (Owes c 0 ∗ Got m c 4 ∗ OutPts m c (insert (back c 4) S₀)) -∗ Q ⟨v474, v475, v476, v477, v478⟩)
      -∗ Runs (F := F) c (k0_part15 xM (Memref.isWhole_whole _) wM (Memref.isWhole_whole _) oM (Memref.isWhole_whole _) cM (Memref.isWhole_whole _) rM (Memref.isWhole_whole _) cc0_scratch2 cc0_scratch3 c v2 v447 z) Q) := by
  simp only [k0_part15_eq_skeleton]; unfold k0_part15_skel
  simp only [semSignalWord, semWaitWord, Prog.lift, Prog.bind_op, Prog.bind_ret, Prog.pure_eq_ret, wp_deviceId]
  iintro ⟨#HR, HO, Hd4, Hout⟩ Hk
  iapply (receive m K c 4 (by decide) rfl) $$ [HO Hd4]
  · isplitr; · iexact HR
    isplitl [HO]; · iexact HO
    iexact Hd4
  iintro ⟨HO, Hd4⟩
  iapply (put_step m c (back c 4) _ (off17_4 c) rfl) $$ Hout; iintro Hout
  iapply runs_ret; iapply Hk
  isplitl [HO]; · iexact HO
  isplitl [Hd4]; · iexact Hd4
  iexact Hout

theorem part16_run {v2 v474 v475 v476 v477 v478 Q} : iprop(records m K ∗ Owes c 0 ∗ Due c 5 ∗ OutPts m c S₀)
    ⊢ iprop((∀ v507 v508 z, (Owes c 0 ∗ Got m c 5 ∗ OutPts m c (insert (back c 5) S₀)) -∗ Q ⟨v507, v508, z⟩)
      -∗ Runs (F := F) c (k0_part16 xM (Memref.isWhole_whole _) wM (Memref.isWhole_whole _) oM (Memref.isWhole_whole _) cM (Memref.isWhole_whole _) rM (Memref.isWhole_whole _) cc0_scratch2 cc0_scratch3 c v2 v474 v475 v476 v477 v478) Q) := by
  simp only [k0_part16_eq_skeleton]; unfold k0_part16_skel
  simp only [semSignalWord, semWaitWord, Prog.lift, Prog.bind_op, Prog.bind_ret, Prog.pure_eq_ret, wp_deviceId]
  iintro ⟨#HR, HO, Hd5, Hout⟩ Hk
  iapply (receive m K c 5 (by decide) rfl) $$ [HO Hd5]
  · isplitr; · iexact HR
    isplitl [HO]; · iexact HO
    iexact Hd5
  iintro ⟨HO, Hd5⟩
  iapply (put_step m c (back c 5) _ (off17_5 c) rfl) $$ Hout; iintro Hout
  iapply runs_ret; iapply Hk
  isplitl [HO]; · iexact HO
  isplitl [Hd5]; · iexact Hd5
  iexact Hout

theorem part17_run {v2 v507 v508 z Q} : iprop(records m K ∗ Owes c 0 ∗ Due c 6 ∗ OutPts m c S₀)
    ⊢ iprop((∀ v532, (Owes c 0 ∗ Got m c 6 ∗ OutPts m c (insert (back c 6) S₀)) -∗ Q v532)
      -∗ Runs (F := F) c (k0_part17 xM (Memref.isWhole_whole _) wM (Memref.isWhole_whole _) oM (Memref.isWhole_whole _) cM (Memref.isWhole_whole _) rM (Memref.isWhole_whole _) cc0_scratch2 cc0_scratch3 c v2 v507 v508 z) Q) := by
  simp only [k0_part17_eq_skeleton]; unfold k0_part17_skel
  simp only [semSignalWord, semWaitWord, Prog.lift, Prog.bind_op, Prog.bind_ret, Prog.pure_eq_ret, wp_deviceId]
  iintro ⟨#HR, HO, Hd6, Hout⟩ Hk
  iapply (receive m K c 6 (by decide) rfl) $$ [HO Hd6]
  · isplitr; · iexact HR
    isplitl [HO]; · iexact HO
    iexact Hd6
  iintro ⟨HO, Hd6⟩
  iapply (put_step m c (back c 6) _ (off17_6 c) rfl) $$ Hout; iintro Hout
  iapply runs_ret; iapply Hk
  isplitl [HO]; · iexact HO
  isplitl [Hd6]; · iexact Hd6
  iexact Hout

/-! ## The rows sent -/

/-- The right to wait for the return of the row sent at offset `o`. -/
def Sent (o : Fin 8) : sProp 𝕄 := iprop(atPos ER (sendCell c o) 0 ∅ 0 ∗ cred (tallyAt (sendCell c o) () N))

/-- A row of the sending buffer counts for as much as a row of the receiving buffer. -/
theorem credit_own : (Memref.whole cc0_scratch0 : Memref sig .tc .vmem S8x128x128 .bf16).view.ref.dmaCredit S128x128 .bf16 = N := by decide +kernel
theorem credit_sent (off : Fin 3 → ℕ) (inb : ∀ a, off a + S1x128x128.size a ≤ S8x128x128.size a) :
    ((cM.slice (Rect.unit (s := S8x128x128) off S1x128x128.size inb) (fun _ => rfl)).squeeze S128x128 squeezes_S1x128x128_S128x128).view.dmaCredit = N :=
  (View.dmaCredit_ref _).symm.trans credit_own

/-- The wait for the row sent at offset `o`. -/
theorem regain (o : Fin 8) (ho : o ≠ 0) {src : Memref sig .tc .vmem S128x128 .bf16} {off : Fin 3 → ℕ} {inb : ∀ a, off a + S1x128x128.size a ≤ S8x128x128.size a}
    {h1 : src.view.WordExact}
    {h2 : ((cM.slice (Rect.unit (s := S8x128x128) off S1x128x128.size inb) (fun _ => rfl)).squeeze S128x128 squeezes_S1x128x128_S128x128).view.WordExact} {α : Type} {k : PUnit → Prog (TpuEff nD τ sig (Elt F) Λ₀ .tc) α} {Q : α → sProp 𝕄} :
    iprop(records m K ∗ Owes c 0 ∗ Sent c o)
      ⊢ iprop(((Owes c 0 ∗ Home m c o) -∗ Runs c (k ⟨⟩) Q) -∗ Runs c (.op (.waitDma2 (sendS o) src ((cM.slice (Rect.unit (s := S8x128x128) off S1x128x128.size inb) (fun _ => rfl)).squeeze S128x128 squeezes_S1x128x128_S128x128) h1 h2) k) Q) := by
  unfold Sent Home
  exact return_step m K c o ho (credit_sent off inb)

/-- The last arrival and the first three returns. -/
theorem part18_run {v532 Q} : iprop(records m K ∗ Owes c 0 ∗ Due c 7 ∗ OutPts m c S₀ ∗ Sent c 2 ∗ Sent c 6 ∗ Sent c 3)
    ⊢ iprop(((Owes c 0 ∗ Got m c 7 ∗ OutPts m c (insert (back c 7) S₀) ∗ Home m c 2 ∗ Home m c 6 ∗ Home m c 3) -∗ Q ⟨⟩)
      -∗ Runs (F := F) c (k0_part18 xM (Memref.isWhole_whole _) wM (Memref.isWhole_whole _) oM (Memref.isWhole_whole _) cM (Memref.isWhole_whole _) rM (Memref.isWhole_whole _) cc0_scratch2 cc0_scratch3 c v532) Q) := by
  simp only [k0_part18_eq_skeleton]; unfold k0_part18_skel
  simp only [semSignalWord, semWaitWord, Prog.lift, Prog.bind_op, Prog.bind_ret, Prog.pure_eq_ret, wp_deviceId]
  iintro ⟨#HR, HO, Hd7, Hout, Hs2, Hs6, Hs3⟩ Hk
  iapply (receive m K c 7 (by decide) rfl) $$ [HO Hd7]
  · isplitr; · iexact HR
    isplitl [HO]; · iexact HO
    iexact Hd7
  iintro ⟨HO, Hd7⟩
  iapply (put_step m c (back c 7) _ (off17_7 c) rfl) $$ Hout; iintro Hout
  iapply (regain m K c 2 (by decide)) $$ [HO Hs2]
  · isplitr; · iexact HR
    isplitl [HO]; · iexact HO
    iexact Hs2
  iintro ⟨HO, Hs2⟩
  iapply (regain m K c 6 (by decide)) $$ [HO Hs6]
  · isplitr; · iexact HR
    isplitl [HO]; · iexact HO
    iexact Hs6
  iintro ⟨HO, Hs6⟩
  iapply (regain m K c 3 (by decide)) $$ [HO Hs3]
  · isplitr; · iexact HR
    isplitl [HO]; · iexact HO
    iexact Hs3
  iintro ⟨HO, Hs3⟩
  iapply runs_ret; iapply Hk
  isplitl [HO]; · iexact HO
  isplitl [Hd7]; · iexact Hd7
  isplitl [Hout]; · iexact Hout
  isplitl [Hs2]; · iexact Hs2
  isplitl [Hs6]; · iexact Hs6
  iexact Hs3

end Cert.KernelIdeal.Run

end
-- ==== Proof.Run.KernelIdeal.Body.lean ====
/-
# The kernel's body

The parts in order, from what a device starts with to what it ends with: the result right in every row, the two exchange
buffers its own again, every semaphore at zero.
-/
module

public import proofs.«01_k».proof.Proof.Run.KernelIdeal.PartsC

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Place → ℕ) (c : Dev nD)

/-! ## Chains -/

/-- A device's positions on its semaphores. -/
def Seats (Φ : Place → sProp 𝕄) : sProp 𝕄 :=
  iprop(Φ (.inl ()) ∗ (Φ (.inr (.inl 0)) ∗ Φ (.inr (.inl 1)) ∗ Φ (.inr (.inl 2)) ∗ Φ (.inr (.inl 3)) ∗ Φ (.inr (.inl 4)) ∗ Φ (.inr (.inl 5)) ∗ Φ (.inr (.inl 6)) ∗ Φ (.inr (.inl 7))) ∗ (Φ (.inr (.inr 0)) ∗ Φ (.inr (.inr 1)) ∗ Φ (.inr (.inr 2)) ∗ Φ (.inr (.inr 3)) ∗ Φ (.inr (.inr 4)) ∗ Φ (.inr (.inr 5)) ∗ Φ (.inr (.inr 6)) ∗ Φ (.inr (.inr 7))))
theorem seats_eq (Φ : Place → sProp 𝕄) : bigSep Finset.univ Φ = Seats Φ := by
  rw [BI.bigSep_univ_sum, BI.bigSep_univ_sum, chain8, chain8, Finset.univ_unique, bigSep_singleton]
  rfl

/-- The rows filled first, renumbered by offset; the device's own row is past the first round already. -/
theorem first_rows : iprop(sPts c 0 (sentBuf m c) ∗ sPts c 1 (sentBuf m c) ∗ sPts c 2 (sentBuf m c) ∗ sPts c 3 (sentBuf m c)
      ∗ (∃ f, sPts c 4 f) ∗ (∃ f, sPts c 5 f) ∗ (∃ f, sPts c 6 f) ∗ ∃ f, sPts c 7 f)
    ⊢ iprop(RowMid m c c ∗ RowFirst m c (ahead c 1) ∗ RowFirst m c (ahead c 2) ∗ RowFirst m c (ahead c 3) ∗ RowFirst m c (ahead c 4) ∗ RowFirst m c (ahead c 5) ∗ RowFirst m c (ahead c 6) ∗ RowFirst m c (ahead c 7)) := by
  have hl : ∀ d : Fin 8, d.val < 4 → RowFirst m c d = sPts c d (sentBuf m c) := fun d h => if_pos h
  have hh : ∀ d : Fin 8, ¬ d.val < 4 → RowFirst m c d = iprop(∃ f, sPts c d f) := fun d h => if_neg h
  rw [← hl 0 (by decide), ← hl 1 (by decide), ← hl 2 (by decide), ← hl 3 (by decide), ← hh 4 (by decide), ← hh 5 (by decide),
    ← hh 6 (by decide), ← hh 7 (by decide), ← rowFirst_own m c]
  exact Entails.of_eq (rows_eq c (RowFirst m c)).symm

/-- The rows sent are together the sending buffer again. -/
theorem sent_whole : iprop(sPts c c (sentBuf m c) ∗ sPts c (ahead c 1) (sentBuf m c) ∗ sPts c (ahead c 2) (sentBuf m c) ∗ sPts c (ahead c 3) (sentBuf m c) ∗ sPts c (ahead c 4) (sentBuf m c) ∗ sPts c (ahead c 5) (sentBuf m c) ∗ sPts c (ahead c 6) (sentBuf m c) ∗ sPts c (ahead c 7) (sentBuf m c))
    ⊢ (∃ f, ((c : Thread nD τ).loc cc0_scratch0) ↦{fullShare} f : sProp 𝕄) := by
  rw [rows_eq c (fun d => sPts c d (sentBuf m c)), ← chain8 (fun d => sPts c d (sentBuf m c)), ← sRows c (sentBuf m c)]
  iintro H; iexists _; iexact H

/-- The rows received, with the row nothing arrives in, are the receiving buffer again. -/
theorem recv_whole : iprop((∃ f, rPts (F := F) c 0 f) ∗ rPts c 1 (recvBuf m c) ∗ rPts c 2 (recvBuf m c) ∗ rPts c 3 (recvBuf m c) ∗ rPts c 4 (recvBuf m c) ∗ rPts c 5 (recvBuf m c) ∗ rPts c 6 (recvBuf m c) ∗ rPts c 7 (recvBuf m c))
    ⊢ (∃ f, ((c : Thread nD τ).loc cc0_scratch1) ↦{fullShare} f : sProp 𝕄) := by
  have h : iprop((∃ f, rPts (F := F) c 0 f) ∗ rPts c 1 (recvBuf m c) ∗ rPts c 2 (recvBuf m c) ∗ rPts c 3 (recvBuf m c) ∗ rPts c 4 (recvBuf m c) ∗ rPts c 5 (recvBuf m c) ∗ rPts c 6 (recvBuf m c) ∗ rPts c 7 (recvBuf m c))
      ⊢ (bigSep Finset.univ fun o => iprop(∃ f, rPts c o f) : sProp 𝕄) := by
    rw [chain8]
    iintro ⟨H0, H1, H2, H3, H4, H5, H6, H7⟩
    isplitl [H0]; · iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    iexists _; iexact H7
  exact h.trans (rRows_join c (m ((c : Thread nD τ).loc cc0_scratch1)))

/-! ## The body -/

/-- A bind runs as its first part, then the rest. -/
theorem runs_bind {α β : Type} (p : Prog (TpuEff nD τ sig (Elt F) Λ₀ .tc) α) (k : α → Prog (TpuEff nD τ sig (Elt F) Λ₀ .tc) β) (Q : β → sProp 𝕄) :
    Runs c (p >>= k) Q = Runs c p (fun a => Runs c (k a) Q) := wp_bind ..

/-- What a device ends with. -/
def Done : sProp 𝕄 := iprop(Owes c 0 ∗ Seats (fun p => semVal (cellAt (c, p)) 0)
  ∗ (∃ f, ((c : Thread nD τ).loc cc0_scratch0) ↦{fullShare} f) ∗ (∃ f, ((c : Thread nD τ).loc cc0_scratch1) ↦{fullShare} f)
  ∗ xPts m c ∗ wPts m c ∗ OutPts m c Finset.univ)

/-- From its positions, credits, duties, rows and operands, a device runs the body to its end. -/
theorem body_run {Q : PUnit → sProp 𝕄} :
    iprop(records m K ∗ levAts L lv ∗ Owes c (oweAll c) ∗ Seats (fun p => atPos ER (cellAt (c, p)) 0 ∅ 0) ∗ cred (tallyAt (barCell c) () 7)
        ∗ (cred (tallyAt (recvCell c 1) () N) ∗ cred (tallyAt (recvCell c 2) () N) ∗ cred (tallyAt (recvCell c 3) () N) ∗ cred (tallyAt (recvCell c 4) () N) ∗ cred (tallyAt (recvCell c 5) () N) ∗ cred (tallyAt (recvCell c 6) () N) ∗ cred (tallyAt (recvCell c 7) () N))
        ∗ (Sig c 1 ∗ Sig c 2 ∗ Sig c 3 ∗ Sig c 4 ∗ Sig c 5 ∗ Sig c 6 ∗ Sig c 7) ∗ (Tok c 1 ∗ Tok c 2 ∗ Tok c 3 ∗ Tok c 4 ∗ Tok c 5 ∗ Tok c 6 ∗ Tok c 7)
        ∗ (∃ f, rPts (F := F) c 0 f) ∗ ((∃ f, sPts (F := F) c 0 f) ∗ (∃ f, sPts (F := F) c 1 f) ∗ (∃ f, sPts (F := F) c 2 f) ∗ (∃ f, sPts (F := F) c 3 f) ∗ (∃ f, sPts (F := F) c 4 f) ∗ (∃ f, sPts (F := F) c 5 f) ∗ (∃ f, sPts (F := F) c 6 f) ∗ (∃ f, sPts (F := F) c 7 f))
        ∗ xPts m c ∗ wPts m c ∗ OutPts m c ∅)
      ⊢ iprop((Done m c -∗ Q ⟨⟩) -∗ Runs (F := F) c (cc0_body xM (Memref.isWhole_whole _) wM (Memref.isWhole_whole _) oM (Memref.isWhole_whole _) cM (Memref.isWhole_whole _) rM (Memref.isWhole_whole _) cc0_scratch2 cc0_scratch3) Q) := by
  simp only [cc0_body_eq_skeleton]; unfold cc0_body_skel
  simp only [k0_part19_eq_skeleton]; unfold k0_part19_skel
  simp only [Prog.lift, Prog.bind_op, Prog.bind_ret, Prog.pure_eq_ret]
  unfold Seats
  iintro ⟨#HR, #Hlev, HO, ⟨HaB, ⟨Hs0, Hs1, Hs2, Hs3, Hs4, Hs5, Hs6, Hs7⟩, ⟨Hv0, Hv1, Hv2, Hv3, Hv4, Hv5, Hv6, Hv7⟩⟩, HcB, ⟨Hc1, Hc2, Hc3, Hc4, Hc5, Hc6, Hc7⟩, ⟨Hg1, Hg2, Hg3, Hg4, Hg5, Hg6, Hg7⟩, ⟨Ht1, Ht2, Ht3, Ht4, Ht5, Ht6, Ht7⟩, Hrow0, ⟨Hb0, Hb1, Hb2, Hb3, Hb4, Hb5, Hb6, Hb7⟩, Hx, Hw, Hout⟩ Hk
  unfold oweAll
  rw [runs_bind]
  rw [runs_bind]
  iapply (part1_run m K c _) $$ [HO Hg1 Hg2]
  · isplitr; · iexact HR
    isplitl [HO]; · iexact HO
    isplitl [Hg1]; · iexact Hg1
    iexact Hg2
  iintro %v2 %v30 %v31 HO
  try dsimp only
  rw [runs_bind]
  iapply (part2_run m K c _) $$ [HO Hg3 Hg4]
  · isplitr; · iexact HR
    isplitl [HO]; · iexact HO
    isplitl [Hg3]; · iexact Hg3
    iexact Hg4
  iintro %v59 %v64 %v65 HO
  try dsimp only
  rw [runs_bind]
  iapply (part3_run m K c _) $$ [HO Hg5 Hg6 Hg7 Hx]
  · isplitr; · iexact HR
    isplitl [HO]; · iexact HO
    isplitl [Hg5]; · iexact Hg5
    isplitl [Hg6]; · iexact Hg6
    isplitl [Hg7]; · iexact Hg7
    iexact Hx
  iintro ⟨HO, Hx⟩
  try dsimp only
  rw [runs_bind]
  iapply (part4_run m c) $$ [Hw Hb0 Hb1 Hb2 Hb3]
  · isplitl [Hw]; · iexact Hw
    isplitl [Hb0]; · iexact Hb0
    isplitl [Hb1]; · iexact Hb1
    isplitl [Hb2]; · iexact Hb2
    iexact Hb3
  iintro ⟨Hw, Hb0, Hb1, Hb2, Hb3⟩
  try dsimp only
  ihave Hrows := (first_rows m c) $$ [Hb0 Hb1 Hb2 Hb3 Hb4 Hb5 Hb6 Hb7]
  · isplitl [Hb0]; · iexact Hb0
    isplitl [Hb1]; · iexact Hb1
    isplitl [Hb2]; · iexact Hb2
    isplitl [Hb3]; · iexact Hb3
    isplitl [Hb4]; · iexact Hb4
    isplitl [Hb5]; · iexact Hb5
    isplitl [Hb6]; · iexact Hb6
    iexact Hb7
  icases Hrows with ⟨Hb0, Hb1, Hb2, Hb3, Hb4, Hb5, Hb6, Hb7⟩
  rw [runs_bind]
  iapply (part5_run m K c) $$ [HO HaB HcB Ht1 Ht2 Ht3 Ht4 Ht5 Ht6 Ht7 Hb2 Hb6]
  · isplitr; · iexact HR
    isplitr; · iexact Hlev
    isplitl [HO]; · iexact HO
    isplitl [HaB]; · iexact HaB
    isplitl [HcB]; · iexact HcB
    isplitl [Ht1 Ht2 Ht3 Ht4 Ht5 Ht6 Ht7]
    · (isplitl [Ht1]; · iexact Ht1); (isplitl [Ht2]; · iexact Ht2); (isplitl [Ht3]; · iexact Ht3); (isplitl [Ht4]; · iexact Ht4); (isplitl [Ht5]; · iexact Ht5); (isplitl [Ht6]; · iexact Ht6); iexact Ht7
    isplitl [Hb2]; · iexact Hb2
    iexact Hb6
  iintro %v161 %v162 ⟨HO, HvB, ⟨Hr1, Hr3, Hr4, Hr5, Hr7⟩, ⟨Hb2, Hm2⟩, ⟨Hb6, Hm6⟩⟩
  try dsimp only
  rw [runs_bind]
  iapply (part6_run m K c _) $$ [HO Hb3 Hr3 Hb5 Hr5]
  · isplitr; · iexact HR
    isplitl [HO]; · iexact HO
    isplitl [Hb3 Hr3]
    · (isplitl [Hb3]; · iexact Hb3); iexact Hr3
    isplitl [Hb5]; · iexact Hb5
    iexact Hr5
  iintro %v191 %v192 %v193 %z6 ⟨HO, ⟨Hb3, Hm3⟩, ⟨Hb5, Hm5⟩⟩
  try dsimp only
  rw [runs_bind]
  iapply (part7_run m K c _) $$ [HO Hb7 Hr7 Hb1 Hr1]
  · isplitr; · iexact HR
    isplitl [HO]; · iexact HO
    isplitl [Hb7 Hr7]
    · (isplitl [Hb7]; · iexact Hb7); iexact Hr7
    isplitl [Hb1]; · iexact Hb1
    iexact Hr1
  iintro %v220 %v225 %v226 ⟨HO, ⟨Hb7, Hm7⟩, ⟨Hb1, Hm1⟩⟩
  try dsimp only
  rw [runs_bind]
  iapply (part8_run m K c _) $$ [HO Hb4 Hr4 Hw Hb0 Hb1 Hb2 Hb3 Hb5 Hb6 Hb7]
  · isplitr; · iexact HR
    isplitl [HO]; · iexact HO
    isplitl [Hb4 Hr4]
    · (isplitl [Hb4]; · iexact Hb4); iexact Hr4
    isplitl [Hw]; · iexact Hw
    isplitl [Hb0]; · iexact Hb0
    isplitl [Hb1]; · iexact Hb1
    isplitl [Hb2]; · iexact Hb2
    isplitl [Hb3]; · iexact Hb3
    isplitl [Hb5]; · iexact Hb5
    isplitl [Hb6]; · iexact Hb6
    iexact Hb7
  iintro ⟨HO, Hm4, Hw, Hrows⟩
  try dsimp only
  unfold oweLate
  rw [runs_bind]
  iapply (part9_run m K c _) $$ [HO Hm2 Hrows]
  · isplitr; · iexact HR
    isplitl [HO]; · iexact HO
    isplitl [Hm2]; · iexact Hm2
    iexact Hrows
  iintro %v291 %v293 ⟨HO, Hd2, ⟨Hb0, Hb1, Hb3, Hb4, Hb5, Hb6, Hb7⟩⟩
  try dsimp only
  rw [runs_bind]
  iapply (part10_run m K c _) $$ [HO Hb6 Hm6 Hb3 Hm3 Hb5 Hm5]
  · isplitr; · iexact HR
    isplitl [HO]; · iexact HO
    isplitl [Hb6 Hm6]
    · (isplitl [Hb6]; · iexact Hb6); iexact Hm6
    isplitl [Hb3 Hm3]
    · (isplitl [Hb3]; · iexact Hb3); iexact Hm3
    isplitl [Hb5]; · iexact Hb5
    iexact Hm5
  iintro %v323 %z10 ⟨HO, Hd6, Hd3, Hd5⟩
  try dsimp only
  rw [runs_bind]
  iapply (part11_run m K c _) $$ [HO Hb7 Hm7 Hb1 Hm1]
  · isplitr; · iexact HR
    isplitl [HO]; · iexact HO
    isplitl [Hb7 Hm7]
    · (isplitl [Hb7]; · iexact Hb7); iexact Hm7
    isplitl [Hb1]; · iexact Hb1
    iexact Hm1
  iintro %v353 %v354 %z11 ⟨HO, Hd7, Hd1⟩
  try dsimp only
  rw [runs_bind]
  iapply (part12_run m K c _) $$ [HO Hb4 Hm4 Hb0 Hout]
  · isplitr; · iexact HR
    isplitl [HO]; · iexact HO
    isplitl [Hb4 Hm4]
    · (isplitl [Hb4]; · iexact Hb4); iexact Hm4
    isplitl [Hb0]; · iexact Hb0
    iexact Hout
  iintro %v382 ⟨HO, Hd4, Hb0, Hout⟩
  try dsimp only
  ihave Hdue1 : iprop(Due c 1) $$ [Hv1 Hc1]
  · unfold Due; isplitl [Hv1]; · iexact Hv1
    iexact Hc1
  ihave Hsent1 : iprop(Sent c 1) $$ [Hs1 Hd1]
  · unfold Sent; isplitl [Hs1]; · iexact Hs1
    iexact Hd1
  ihave Hdue2 : iprop(Due c 2) $$ [Hv2 Hc2]
  · unfold Due; isplitl [Hv2]; · iexact Hv2
    iexact Hc2
  ihave Hsent2 : iprop(Sent c 2) $$ [Hs2 Hd2]
  · unfold Sent; isplitl [Hs2]; · iexact Hs2
    iexact Hd2
  ihave Hdue3 : iprop(Due c 3) $$ [Hv3 Hc3]
  · unfold Due; isplitl [Hv3]; · iexact Hv3
    iexact Hc3
  ihave Hsent3 : iprop(Sent c 3) $$ [Hs3 Hd3]
  · unfold Sent; isplitl [Hs3]; · iexact Hs3
    iexact Hd3
  ihave Hdue4 : iprop(Due c 4) $$ [Hv4 Hc4]
  · unfold Due; isplitl [Hv4]; · iexact Hv4
    iexact Hc4
  ihave Hsent4 : iprop(Sent c 4) $$ [Hs4 Hd4]
  · unfold Sent; isplitl [Hs4]; · iexact Hs4
    iexact Hd4
  ihave Hdue5 : iprop(Due c 5) $$ [Hv5 Hc5]
  · unfold Due; isplitl [Hv5]; · iexact Hv5
    iexact Hc5
  ihave Hsent5 : iprop(Sent c 5) $$ [Hs5 Hd5]
  · unfold Sent; isplitl [Hs5]; · iexact Hs5
    iexact Hd5
  ihave Hdue6 : iprop(Due c 6) $$ [Hv6 Hc6]
  · unfold Due; isplitl [Hv6]; · iexact Hv6
    iexact Hc6
  ihave Hsent6 : iprop(Sent c 6) $$ [Hs6 Hd6]
  · unfold Sent; isplitl [Hs6]; · iexact Hs6
    iexact Hd6
  ihave Hdue7 : iprop(Due c 7) $$ [Hv7 Hc7]
  · unfold Due; isplitl [Hv7]; · iexact Hv7
    iexact Hc7
  ihave Hsent7 : iprop(Sent c 7) $$ [Hs7 Hd7]
  · unfold Sent; isplitl [Hs7]; · iexact Hs7
    iexact Hd7
  rw [runs_bind]
  iapply (part13_run m K c _) $$ [HO Hdue1 Hdue2 Hout]
  · isplitr; · iexact HR
    isplitl [HO]; · iexact HO
    isplitl [Hdue1]; · iexact Hdue1
    isplitl [Hdue2]; · iexact Hdue2
    iexact Hout
  iintro %v407 ⟨HO, Hgot1, Hgot2, Hout⟩
  try dsimp only
  rw [runs_bind]
  iapply (part14_run m K c _) $$ [HO Hdue3 Hout]
  · isplitr; · iexact HR
    isplitl [HO]; · iexact HO
    isplitl [Hdue3]; · iexact Hdue3
    iexact Hout
  iintro %v447 %z14 ⟨HO, Hgot3, Hout⟩
  try dsimp only
  rw [runs_bind]
  iapply (part15_run m K c _) $$ [HO Hdue4 Hout]
  · isplitr; · iexact HR
    isplitl [HO]; · iexact HO
    isplitl [Hdue4]; · iexact Hdue4
    iexact Hout
  iintro %v474 %v475 %v476 %v477 %v478 ⟨HO, Hgot4, Hout⟩
  try dsimp only
  rw [runs_bind]
  iapply (part16_run m K c _) $$ [HO Hdue5 Hout]
  · isplitr; · iexact HR
    isplitl [HO]; · iexact HO
    isplitl [Hdue5]; · iexact Hdue5
    iexact Hout
  iintro %v507 %v508 %z16 ⟨HO, Hgot5, Hout⟩
  try dsimp only
  rw [runs_bind]
  iapply (part17_run m K c _) $$ [HO Hdue6 Hout]
  · isplitr; · iexact HR
    isplitl [HO]; · iexact HO
    isplitl [Hdue6]; · iexact Hdue6
    iexact Hout
  iintro %v532 ⟨HO, Hgot6, Hout⟩
  try dsimp only
  rw [runs_bind]
  iapply (part18_run m K c _) $$ [HO Hdue7 Hout Hsent2 Hsent6 Hsent3]
  · isplitr; · iexact HR
    isplitl [HO]; · iexact HO
    isplitl [Hdue7]; · iexact Hdue7
    isplitl [Hout]; · iexact Hout
    isplitl [Hsent2]; · iexact Hsent2
    isplitl [Hsent6]; · iexact Hsent6
    iexact Hsent3
  iintro ⟨HO, Hgot7, Hout, Hhome2, Hhome6, Hhome3⟩
  try dsimp only
  iapply (regain m K c 5 (by decide)) $$ [HO Hsent5]
  · isplitr; · iexact HR
    isplitl [HO]; · iexact HO
    iexact Hsent5
  iintro ⟨HO, Hhome5⟩
  try dsimp only
  iapply (regain m K c 7 (by decide)) $$ [HO Hsent7]
  · isplitr; · iexact HR
    isplitl [HO]; · iexact HO
    iexact Hsent7
  iintro ⟨HO, Hhome7⟩
  try dsimp only
  iapply runs_ret
  try dsimp only
  iapply (regain m K c 1 (by decide)) $$ [HO Hsent1]
  · isplitr; · iexact HR
    isplitl [HO]; · iexact HO
    iexact Hsent1
  iintro ⟨HO, Hhome1⟩
  try dsimp only
  iapply (regain m K c 4 (by decide)) $$ [HO Hsent4]
  · isplitr; · iexact HR
    isplitl [HO]; · iexact HO
    iexact Hsent4
  iintro ⟨HO, Hhome4⟩
  try dsimp only
  unfold Got Home
  icases Hgot1 with ⟨Hv1, Hq1⟩
  icases Hhome1 with ⟨Hs1, Hb1⟩
  icases Hgot2 with ⟨Hv2, Hq2⟩
  icases Hhome2 with ⟨Hs2, Hb2⟩
  icases Hgot3 with ⟨Hv3, Hq3⟩
  icases Hhome3 with ⟨Hs3, Hb3⟩
  icases Hgot4 with ⟨Hv4, Hq4⟩
  icases Hhome4 with ⟨Hs4, Hb4⟩
  icases Hgot5 with ⟨Hv5, Hq5⟩
  icases Hhome5 with ⟨Hs5, Hb5⟩
  icases Hgot6 with ⟨Hv6, Hq6⟩
  icases Hhome6 with ⟨Hs6, Hb6⟩
  icases Hgot7 with ⟨Hv7, Hq7⟩
  icases Hhome7 with ⟨Hs7, Hb7⟩
  imod (idle_cells m K c) $$ [Hs0 Hv0] with ⟨Hs0, Hv0⟩
  · isplitr; · iexact HR
    isplitl [Hs0]; · iexact Hs0
    iexact Hv0
  iapply runs_ret
  iapply Hk
  unfold Done Seats
  isplitl [HO]; · iexact HO
  isplitl [HvB Hs0 Hs1 Hs2 Hs3 Hs4 Hs5 Hs6 Hs7 Hv0 Hv1 Hv2 Hv3 Hv4 Hv5 Hv6 Hv7]
  · isplitl [HvB]; · iexact HvB
    isplitl [Hs0 Hs1 Hs2 Hs3 Hs4 Hs5 Hs6 Hs7]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      iexact Hs7
    isplitl [Hv0]; · iexact Hv0
    isplitl [Hv1]; · iexact Hv1
    isplitl [Hv2]; · iexact Hv2
    isplitl [Hv3]; · iexact Hv3
    isplitl [Hv4]; · iexact Hv4
    isplitl [Hv5]; · iexact Hv5
    isplitl [Hv6]; · iexact Hv6
    iexact Hv7
  isplitl [Hb0 Hb1 Hb2 Hb3 Hb4 Hb5 Hb6 Hb7]
  · iapply (sent_whole m c)
    isplitl [Hb0]; · iexact Hb0
    isplitl [Hb1]; · iexact Hb1
    isplitl [Hb2]; · iexact Hb2
    isplitl [Hb3]; · iexact Hb3
    isplitl [Hb4]; · iexact Hb4
    isplitl [Hb5]; · iexact Hb5
    isplitl [Hb6]; · iexact Hb6
    iexact Hb7
  isplitl [Hrow0 Hq1 Hq2 Hq3 Hq4 Hq5 Hq6 Hq7]
  · iapply (recv_whole m c)
    isplitl [Hrow0]; · iexact Hrow0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    iexact Hq7
  isplitl [Hx]; · iexact Hx
  isplitl [Hw]; · iexact Hw
  iapply (Entails.of_eq (congrArg (OutPts m c) (sources_all c))) $$ Hout

end Cert.KernelIdeal.Run

end
-- ==== Proof.Run.KernelIdeal.Obligation.lean ====
/-
# What a device's run starts from and ends with

The state around the one grid point, and the body's obligation towards the pipeline.
-/
module

public import proofs.«01_k».proof.Proof.Run.KernelIdeal.Body

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-- The memory at launch. -/
def s₀ : MemSt nD τ sig (Elt F) := ⟨m, fun _ => 0, ρ⟩

/-! ## The state around the point -/

/-- The duties device `c` pays: one at every barrier but its own, and for each offset the return of its row and the arrival
    at the device that many places ahead. -/
def payToks (c : Dev nD) : sProp 𝕄 :=
  iprop((bigSep Finset.univ fun o : Fin 8 => dutyTok ER (barCell (ahead c o)) 0 (opp o))
    ∗ (bigSep Finset.univ fun o : Fin 8 => dutyTok ER (sendCell c o) 0 o)
    ∗ bigSep Finset.univ fun o : Fin 8 => dutyTok ER (recvCell (ahead c o) o) 0 o)

/-- The invariants, the device's positions and its duties. -/
def ghost (K : Dev nD × Place → ℕ) (c : Dev nD) : sProp 𝕄 :=
  iprop(records m K ∗ (bigSep Finset.univ fun p : Place => atPos ER (cellAt (c, p)) 0 ∅ 0) ∗ payToks c)

/-- What will arrive at the device's own semaphores. -/
def claims (c : Dev nD) : sProp 𝕄 :=
  iprop(cred (tallyAt (barCell c) () 7) ∗ bigSep (Finset.univ.erase 0) fun o : Fin 8 => cred (tallyAt (recvCell c o) () N))

/-- What device `c` starts from, -/
def start (c : Dev nD) : sProp 𝕄 := iprop((∃ K, ghost m K c) ∗ claims c ∗ levAts L lv)

/-- with its exchange buffers; -/
def Φ₀ (c : Dev nD) : sProp 𝕄 :=
  iprop(start m c ∗ (∃ f, ((c : Thread nD τ).loc cc0_scratch0) ↦{fullShare} f) ∗ ∃ f, ((c : Thread nD τ).loc cc0_scratch1) ↦{fullShare} f)
/-- and ends with: the exchange buffers, and every semaphore at zero. -/
def Φ₁ (c : Dev nD) : sProp 𝕄 :=
  iprop((bigSep Finset.univ fun p : Place => semVal (cellAt (c, p)) 0)
    ∗ (∃ f, ((c : Thread nD τ).loc cc0_scratch0) ↦{fullShare} f) ∗ ∃ f, ((c : Thread nD τ).loc cc0_scratch1) ↦{fullShare} f)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => wstg m c
    | ⟨2, _⟩ => outBuf m c
  Φ t := match t with
    | ⟨0, _⟩ => Φ₀ m c
    | ⟨_ + 1, _⟩ => Φ₁ (F := F) c
  q _ := fullShare
  owed t := match t with
    | ⟨0, _⟩ => oweAll c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

theorem bigSep_W (Φ : Fin cfg0.W → sProp 𝕄) : bigSep Finset.univ Φ = iprop(Φ (0 : Fin 3) ∗ Φ (1 : Fin 3) ∗ Φ (2 : Fin 3)) := bigSep_W0 Φ

/-- A device holds the buffer `b` whole, at the contents `X`. -/
abbrev held (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))
theorem owns_held (c : Dev nD) (b : Ref sig .tc) (X : b.ty.Contents (Elt F)) :
    (owns (Ix := Unit) (Name := ℕ) (U := UU) (Lvl := ℕ) (c : Thread nD τ) (Memref.whole b) fullShare X : sProp 𝕄) = held c b X := by
  unfold owns held; simp only [Memref.view_whole, View.read_whole, View.set_whole]

/-! ## The obligation -/

variable (c : Dev nD)

def opps : Fin 8 ≃ Fin 8 := ⟨opp, opp, opp_opp, opp_opp⟩
theorem some_row (o : Fin 8) (f : Buf (Elt F) ((c : Thread nD τ).loc cc0_scratch1)) : rPts c o f ⊢ iprop(∃ f, rPts (F := F) c o f) := by
  iintro H; iexists f; iexact H
theorem some_srow (d : Fin 8) (f : Buf (Elt F) ((c : Thread nD τ).loc cc0_scratch0)) : sPts c d f ⊢ iprop(∃ f, sPts (F := F) c d f) := by
  iintro H; iexists f; iexact H
theorem some_rows (f : Buf (Elt F) ((c : Thread nD τ).loc cc0_scratch1)) :
    (bigSep Finset.univ fun o : Fin 8 => (rPts c (opps o) f : sProp 𝕄)) ⊢ bigSep Finset.univ fun o : Fin 8 => iprop(∃ f, rPts (F := F) c (opp o) f) :=
  bigSep_mono fun o _ => some_row c (opp o) f
/-- The receiving buffer's rows, each beside the barrier duty that lends it. -/
theorem lend_rows (f : Buf (Elt F) ((c : Thread nD τ).loc cc0_scratch1)) :
    iprop((((c : Thread nD τ).loc cc0_scratch1) ↦{fullShare} f) ∗ bigSep Finset.univ fun o : Fin 8 => dutyTok ER (barCell (ahead c o)) 0 (opp o))
      ⊢ (bigSep Finset.univ fun o : Fin 8 => Sig (F := F) c o : sProp 𝕄) := by
  rw [rRows, bigSep_univ_equiv opps (fun o : Fin 8 => rPts c o f)]
  unfold Sig; rw [bigSep_sep']
  iintro ⟨Hr, Ht⟩
  isplitl [Ht]; · iexact Ht
  iapply (some_rows c f) $$ Hr
theorem pay_toks : iprop((bigSep Finset.univ fun o : Fin 8 => dutyTok ER (sendCell c o) 0 o)
      ∗ bigSep Finset.univ fun o : Fin 8 => dutyTok ER (recvCell (ahead c o) o) 0 o) = (bigSep Finset.univ fun o : Fin 8 => Tok (F := F) c o : sProp 𝕄) := by
  unfold Tok; rw [bigSep_sep']
theorem send_rows (f : Buf (Elt F) ((c : Thread nD τ).loc cc0_scratch0)) :
    (((c : Thread nD τ).loc cc0_scratch0) ↦{fullShare} f : sProp 𝕄) ⊢ bigSep Finset.univ fun d : Fin 8 => iprop(∃ f, sPts (F := F) c d f) := by
  rw [sRows]; exact bigSep_mono fun d _ => some_srow c d f
theorem claims_eq : (claims c : sProp 𝕄) = iprop(cred (tallyAt (barCell c) () 7) ∗ cred (tallyAt (recvCell c 1) () N)
    ∗ cred (tallyAt (recvCell c 2) () N) ∗ cred (tallyAt (recvCell c 3) () N) ∗ cred (tallyAt (recvCell c 4) () N)
    ∗ cred (tallyAt (recvCell c 5) () N) ∗ cred (tallyAt (recvCell c 6) () N) ∗ cred (tallyAt (recvCell c 7) () N)) := by
  unfold claims
  rw [bigSep_eq_bigSepL_of_eq [1, 2, 3, 4, 5, 6, 7] (by decide) (by decide)]; rfl

def bodyPre : sProp 𝕄 :=
  iprop(Φ₀ m c ∗ (dats m ρ 0 c).owesAt () t₀.castSucc
    ∗ (∃ d, held c cc0_stg0_0 ((dats m ρ 0 c).before (0 : Fin 3) t₀ d))
    ∗ (∃ d, held c cc0_stg1_0 ((dats m ρ 0 c).before (1 : Fin 3) t₀ d))
    ∗ (∃ d, held c cc0_stg2_0 ((dats m ρ 0 c).before (2 : Fin 3) t₀ d)))

def bodyPost : sProp 𝕄 :=
  iprop(Φ₁ (F := F) c ∗ (dats m ρ 0 c).owesAt () t₀.succ ∗ held c cc0_stg0_0 (xstg m c) ∗ held c cc0_stg1_0 (wstg m c) ∗ held c cc0_stg2_0 (outBuf m c))

/-- What the body ends with is what the pipeline takes back. -/
theorem done_post : Done m c ⊢ bodyPost m ρ c := by
  unfold Done bodyPost Φ₁ Dat.owesAt Pipeline.owesWithin Owes OutPts xPts wPts
  rw [show (dats m ρ 0 c).owed t₀.succ = 0 from rfl, seats_eq]
  iintro ⟨⟨%W, HO⟩, Hz, Hs, Hr, Hx, Hw, ⟨%f, %hf, Ho⟩⟩
  isplitl [Hz Hs Hr]
  · isplitl [Hz]; · iexact Hz
    isplitl [Hs] <;> iassumption
  isplitl [HO]
  · iexists W
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists f; isplitr; · (ipureintro; exact agrees_univ m c f hf)
  iexact Ho

set_option maxRecDepth 4000 in
/-- The body runs from what the pipeline hands it to what the pipeline takes back. -/
theorem sound_body : bodyPre m ρ c ⊢ Runs c (cc0_body xM (Memref.isWhole_whole _) wM (Memref.isWhole_whole _) oM (Memref.isWhole_whole _) cM (Memref.isWhole_whole _) rM (Memref.isWhole_whole _) cc0_scratch2 cc0_scratch3) (fun _ => bodyPost m ρ c) := by
  unfold bodyPre Φ₀ start ghost payToks Dat.owesAt Pipeline.owesWithin
  rw [show (dats m ρ 0 c).owed t₀.castSucc = oweAll c from rfl, claims_eq]
  iintro ⟨⟨⟨⟨%K, ⟨#HR, Hat, Hlend, Htok⟩⟩, Hcl, #Hlev⟩, ⟨%fs, Hs⟩, ⟨%fr, Hr⟩⟩, ⟨%W, %hW, HO⟩, ⟨%d0, %g0, %hg0, Hx⟩, ⟨%d1, %g1, %hg1, Hw⟩, ⟨%d2, %g2, %hg2, Hout⟩⟩
  have hx : g0 = xstg m c := by rw [hg0]; unfold Dat.before; rw [if_pos (fetch0_0 t₀)]; rfl
  have hw : g1 = wstg m c := by rw [hg1]; unfold Dat.before; rw [if_pos (fetch0_1 t₀)]; rfl
  subst hx hw
  ihave Hsig := (lend_rows c fr) $$ [Hr Hlend]
  · isplitl [Hr] <;> iassumption
  ihave Hsig := (Entails.of_eq (chain8 (fun o => Sig (F := F) c o))) $$ Hsig
  ihave Htok := (Entails.of_eq ((pay_toks (F := F) c).trans (chain8 (fun o => Tok (F := F) c o)))) $$ Htok
  ihave Hs := ((send_rows c fs).trans (Entails.of_eq (chain8 (fun d => iprop(∃ f, sPts (F := F) c d f))))) $$ Hs
  ihave Hat := (Entails.of_eq (seats_eq (fun p => atPos ER (cellAt (c, p)) 0 ∅ 0))) $$ Hat
  icases Hsig with ⟨Hsig0, Hsig⟩
  icases Htok with ⟨-, Htok⟩
  icases Hcl with ⟨HcB, Hcl⟩
  iapply (body_run m K c) $$ [HO Hat HcB Hcl Hsig0 Hsig Htok Hs Hx Hw Hout]
  · isplitr; · iexact HR
    isplitr; · iexact Hlev
    isplitl [HO]; · unfold Owes; iexists W; iexact HO
    isplitl [Hat]; · iexact Hat
    isplitl [HcB]; · iexact HcB
    isplitl [Hcl]; · iexact Hcl
    isplitl [Hsig]; · iexact Hsig
    isplitl [Htok]; · iexact Htok
    isplitl [Hsig0]
    · unfold Sig; icases Hsig0 with ⟨-, H⟩; iexact H
    isplitl [Hs]; · iexact Hs
    isplitl [Hx]; · unfold xPts; iexact Hx
    isplitl [Hw]; · unfold wPts; iexact Hw
    unfold OutPts; iexists g2
    isplitr; · ipureintro; exact agrees_empty m c g2
    iexact Hout
  iintro H
  iapply (done_post m ρ c); iexact H

set_option maxRecDepth 4000 in
/-- The pipeline's demand on the body, on device `c`. -/
theorem body_obligation (c : Dev nD) : BodyObligation (dats (F := F) m ρ 0 c) (defs₀ (F := F)) 𝒱₀ () Set.univ := fun t => by
  rw [fin_N t, bigSep_W, bigSep_W]
  simp only [owns_held]
  exact sound_body m ρ c

end Cert.KernelIdeal.Run

end
-- ==== Proof.Run.KernelIdeal.Launch.lean ====
/-
# The run

What the launch deals each device, the duties dealt around the mesh, the credits it starts with, and the run of the
kernel on the eight devices.
-/
module

public import proofs.«01_k».proof.Proof.Run.KernelIdeal.Obligation
public import Idealize.ShloMosaic.Lib.Pipeline.CollectiveSegs
public import Mathlib.Tactic.Abel

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-! ## The semaphores -/

theorem placeSem_inj : Function.Injective placeSem := by
  rintro (_ | o | o) (_ | o' | o') h
  · rfl
  · cases h
  · cases h
  · cases h
  · rw [sendL_inj h]
  · exact absurd h (sendL_ne_recvL o o')
  · cases h
  · exact absurd h.symm (sendL_ne_recvL o' o)
  · rw [recvL_inj h]

theorem cellAt_inj : Function.Injective (cellAt : Dev nD × Place → GSem nD τ sig) := by
  rintro ⟨c, p⟩ ⟨c', p'⟩ h
  have h1 : c = c' := congrArg (fun g : GSem nD τ sig => g.1.1) h
  have h2 : p = p' := placeSem_inj (congrArg Prod.snd h)
  rw [h1, h2]

/-- The kernel's own semaphores: all but the barrier's. -/
abbrev osem : Fin 8 ⊕ Fin 8 → SemLoc sig := fun k => placeSem (.inr k)
theorem ownSemFacts : Pipeline.OwnSemFacts cfg0.spec osem := by decide +kernel

def allCells : Finset (GSem nD τ sig) := Finset.univ.map ⟨cellAt, cellAt_inj⟩

/-- The duties, by the semaphore they are paid to: a barrier's eight, and one of each other semaphore. -/
abbrev dutyAt (x : Dev nD × (Fin 8 ⊕ Fin 8 ⊕ Fin 8)) : GSem nD τ sig × ℕ × Fin 8 := match x.2 with
  | .inl d => (barCell x.1, 0, d) | .inr (.inl o) => (sendCell x.1 o, 0, o) | .inr (.inr o) => (recvCell x.1 o, 0, o)
theorem dutyAt_inj : Function.Injective dutyAt := by
  rintro ⟨c, x⟩ ⟨c', x'⟩ h
  have h1 : c = c' := by
    have := congrArg (fun y : GSem nD τ sig × ℕ × Fin 8 => y.1.1.1) h
    rcases x with d | o | o <;> rcases x' with d' | o' | o' <;> exact this
  have hs := congrArg (fun y : GSem nD τ sig × ℕ × Fin 8 => y.1.2) h
  have hd := congrArg (fun y : GSem nD τ sig × ℕ × Fin 8 => y.2.2) h
  subst h1
  rcases x with d | o | o <;> rcases x' with d' | o' | o'
  · cases (show d = d' from hd); rfl
  · cases hs
  · cases hs
  · cases hs
  · cases (show o = o' from hd); rfl
  · exact absurd hs (sendL_ne_recvL o o')
  · cases hs
  · exact absurd hs.symm (sendL_ne_recvL o' o)
  · cases (show o = o' from hd); rfl
def allDuties : Finset (GSem nD τ sig × ℕ × Fin 8) := Finset.univ.map ⟨dutyAt, dutyAt_inj⟩

def u₀ : UU := (initOf (Pipeline.cells cfgs cellOf_inj) (Pipeline.launchToks cfgs cellOf_inj), initOf allCells allDuties)

/-! ## What the launch deals a device -/

/-- The duties of device `c`'s own semaphores. -/
def toks (c : Dev nD) : sProp 𝕄 :=
  iprop((bigSep Finset.univ fun d : Fin 8 => dutyTok ER (barCell c) 0 d)
    ∗ (bigSep Finset.univ fun o : Fin 8 => dutyTok ER (sendCell c o) 0 o)
    ∗ bigSep Finset.univ fun o : Fin 8 => dutyTok ER (recvCell c o) 0 o)

def G (c : Dev nD) : sProp 𝕄 :=
  iprop((bigSep Finset.univ fun p : Place => roundState ER (proto m) (cellAt (c, p)) 0)
    ∗ ((bigSep Finset.univ fun p : Place => atPos ER (cellAt (c, p)) 0 ∅ 0) ∗ bigSep Finset.univ fun p : Place => reached ER (cellAt (c, p)) 0) ∗ toks c)

def G' (c : Dev nD) : sProp 𝕄 := iprop(∃ K, ghost m K c)

theorem by_device (Φ : GSem nD τ sig → sProp 𝕄) :
    bigSep allCells Φ = bigSep Finset.univ fun c : Dev nD => bigSep Finset.univ fun p : Place => Φ (cellAt (c, p)) := by
  unfold allCells; rw [bigSep_map, bigSep_univ_prod]; rfl
theorem duties_by_device :
    bigSep allDuties (fun x => (dutyTok ER x.1 x.2.1 x.2.2 : sProp 𝕄)) = bigSep Finset.univ fun c : Dev nD => toks c := by
  unfold allDuties; rw [bigSep_map, bigSep_univ_prod]
  exact bigSep_congr fun c _ => by unfold toks; rw [BI.bigSep_univ_sum, BI.bigSep_univ_sum]; rfl

theorem fund_all : BI.own (ER (initOf allCells allDuties)) ⊢ (|==> bigSep Finset.univ (G m) : sProp 𝕄) := by
  iintro HX
  imod (Rounds.fund ER (proto m) allCells allDuties) $$ HX with ⟨Hst, Hr, Hat, Htok⟩
  imodintro
  ihave Hst := (Entails.of_eq (by_device fun g => roundState ER (proto m) g 0)) $$ Hst
  ihave Hat := (Entails.of_eq (by_device fun g => atPos ER g 0 ∅ 0)) $$ Hat
  ihave Hr := (Entails.of_eq (by_device fun g => reached ER g 0)) $$ Hr
  ihave Htok := (Entails.of_eq duties_by_device) $$ Htok
  unfold G; simp only [bigSep_sep']
  isplitl [Hst]; · iexact Hst
  isplitl [Hat Hr]
  · isplitl [Hat] <;> iassumption
  iexact Htok

theorem unscoped_bar (c : Dev nD) : (unscopedSems0 c : sProp 𝕄) = semVal (barCell c) 0 := by
  unfold unscopedSems0; rw [bigSep_eq_bigSepL_of_eq [SemLoc.reg barS] (by decide +kernel) (by decide)]; rfl
/-- The barrier's counter and the kernel's own ones, all at zero. -/
theorem sems_eq (c : Dev nD) : (bigSep Finset.univ fun p : Place => semVal (cellAt (c, p)) 0 : sProp 𝕄)
    = iprop(unscopedSems0 c ∗ Pipeline.ownSems0 (Ix := Unit) (Name := ℕ) (U := UU) (Lvl := ℕ) (Val := Elt F) (τ := τ) osem c) := by
  rw [unscoped_bar, BI.bigSep_univ_sum, Finset.univ_unique, bigSep_singleton]; rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun p : Place => iprop(∃ κ : ℕ, cellInv ER (proto m) κ (cellAt (c, p))))
          ∗ ((bigSep Finset.univ fun p : Place => atPos ER (cellAt (c, p)) 0 ∅ 0) ∗ bigSep Finset.univ fun p : Place => reached ER (cellAt (c, p)) 0) ∗ toks c) := by
  unfold G
  iintro ⟨Hos, Hus, Hst, Hat, Htok⟩
  ihave Hv := (Entails.of_eq (sems_eq (F := F) c).symm) $$ [Hos Hus]
  · isplitl [Hus] <;> iassumption
  imod (show iprop((bigSep Finset.univ fun p : Place => semVal (cellAt (c, p)) 0) ∗ bigSep Finset.univ fun p : Place => roundState ER (proto m) (cellAt (c, p)) 0)
      ⊢ (|={Set.univ}=> bigSep Finset.univ fun p : Place => iprop(∃ κ : ℕ, cellInv ER (proto m) κ (cellAt (c, p))) : sProp 𝕄) from by
        rw [← bigSep_sep']
        exact (bigSep_mono fun p _ => (Rounds.body_intro ER (proto m) (cellAt (c, p))).trans inv_alloc).trans (bigSep_fupd _ _)) $$ [Hv Hst] with Hinv
  · isplitl [Hv] <;> iassumption
  imodintro
  isplitl [Hinv]; · iexact Hinv
  isplitl [Hat]; · iexact Hat
  iexact Htok

/-! ## The duties, from those who are paid to those who pay -/

/-- (device, offset) ↦ (the device that many places ahead, the offset back); an involution. -/
def there : Dev nD × Fin 8 ≃ Dev nD × Fin 8 :=
  ⟨fun x => (ahead x.1 x.2, opp x.2), fun x => (ahead x.1 x.2, opp x.2),
    fun x => Prod.ext (ahead_opp x.1 x.2) (opp_opp x.2), fun x => Prod.ext (ahead_opp x.1 x.2) (opp_opp x.2)⟩
/-- (device, offset) ↦ (the device that many places ahead, the same offset). -/
def onward : Dev nD × Fin 8 ≃ Dev nD × Fin 8 :=
  ⟨fun x => (ahead x.1 x.2, x.2), fun x => (back x.1 x.2, x.2),
    fun x => Prod.ext (back_ahead x.1 x.2) rfl, fun x => Prod.ext (ahead_back x.1 x.2) rfl⟩

theorem deal (e : Dev nD × Fin 8 ≃ Dev nD × Fin 8) (Φ : Dev nD × Fin 8 → sProp 𝕄) :
    (bigSep Finset.univ fun c : Dev nD => bigSep Finset.univ fun o : Fin 8 => Φ (c, o))
      = bigSep Finset.univ fun c : Dev nD => bigSep Finset.univ fun o : Fin 8 => Φ (e (c, o)) := by
  exact (bigSep_univ_prod Φ).symm.trans ((bigSep_univ_equiv e Φ).trans (bigSep_univ_prod fun x => Φ (e x)))

theorem toks_around : (bigSep Finset.univ fun c : Dev nD => (toks c : sProp 𝕄)) = bigSep Finset.univ fun c : Dev nD => payToks c := by
  unfold toks payToks
  rw [bigSep_sep', bigSep_sep', bigSep_sep', bigSep_sep', deal there (fun x => dutyTok ER (barCell x.1) 0 x.2),
    deal onward (fun x => dutyTok ER (recvCell x.1 x.2) 0 x.2)]
  rfl

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Place → ℕ) (c : Dev nD) :
    iprop(records m K ∗ (bigSep Finset.univ fun p : Place => atPos ER (cellAt (c, p)) 0 ∅ 0) ∗ payToks c) ⊢ G' m c := by
  unfold G' ghost
  iintro H; iexists K; iexact H

theorem regroup :
    (bigSep Finset.univ fun c : Dev nD => iprop((bigSep Finset.univ fun p : Place => iprop(∃ κ : ℕ, cellInv ER (proto m) κ (cellAt (c, p))))
          ∗ ((bigSep Finset.univ fun p : Place => atPos ER (cellAt (c, p)) 0 ∅ 0) ∗ bigSep Finset.univ fun p : Place => reached ER (cellAt (c, p)) 0) ∗ toks c) : sProp 𝕄)
      ⊢ bigSep Finset.univ (G' m) := by
  rw [bigSep_sep', bigSep_sep', bigSep_sep', toks_around, ← bigSep_univ_prod (fun p : Dev nD × Place => iprop(∃ κ : ℕ, cellInv ER (proto m) κ (cellAt p))),
    ← bigSep_univ_prod (fun p : Dev nD × Place => (reached ER (cellAt p) 0 : sProp 𝕄))]
  iintro ⟨HI, ⟨Hat, #HR⟩, Htok⟩
  ihave HK := (BI.bigSep_exists_pi Finset.univ (fun (p : Dev nD × Place) (κ : ℕ) => (cellInv ER (proto m) κ (cellAt p) : sProp 𝕄))) $$ HI
  icases HK with ⟨%K, #HI⟩
  iapply (with_persistent (R := records m K) fun c _ => ghost_intro m K c)
  isplitr
  · unfold records; isplitl; · iexact HI
    iexact HR
  · iapply (Entails.of_eq (bigSep_sep' Finset.univ (fun c : Dev nD => bigSep Finset.univ fun p : Place => (atPos ER (cellAt (c, p)) 0 ∅ 0 : sProp 𝕄)) payToks).symm)
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits at launch -/

theorem sum7 {A : Type} [AddCommMonoid A] (f : Fin 8 → A) : ∑ o ∈ Finset.univ.erase 0, f o = f 1 + f 2 + f 3 + f 4 + f 5 + f 6 + f 7 := by
  rw [show (Finset.univ.erase 0 : Finset (Fin 8)) = {1, 2, 3, 4, 5, 6, 7} from by decide]
  rw [Finset.sum_insert (by decide), Finset.sum_insert (by decide), Finset.sum_insert (by decide), Finset.sum_insert (by decide),
    Finset.sum_insert (by decide), Finset.sum_insert (by decide), Finset.sum_singleton]
  simp only [add_assoc]

/-- A transfer is owed once, in the first round or in the second. -/
theorem due_once (d : Dev nD) (o : Fin 8) : tallyAt (recvCell (ahead d o) o) () N = dueEarly d o + dueLate d o := by
  unfold dueEarly dueLate
  split
  · rw [add_zero]
  · rw [zero_add]

/-- What a device owes at launch: a unit to every other barrier, a row to every other device. -/
theorem oweAll_eq (d : Dev nD) : oweAll d = (∑ o ∈ Finset.univ.erase 0, tallyAt (barCell (ahead d o)) () 1)
    + ∑ o ∈ Finset.univ.erase 0, tallyAt (recvCell (ahead d o) o) () N := by
  rw [Finset.sum_congr rfl fun (o : Fin 8) _ => due_once d o, sum7, sum7]
  unfold oweAll oweSends oweLate dueBar
  abel

theorem bar_eq_iff {a b : Dev nD} : barCell a = barCell b ↔ a = b :=
  ⟨fun h => congrArg (fun g : GSem nD τ sig => g.1.1) h, fun h => h ▸ rfl⟩
theorem recv_eq_iff {a b : Dev nD} {o o' : Fin 8} : recvCell a o = recvCell b o' ↔ a = b ∧ o = o' :=
  ⟨fun h => ⟨congrArg (fun g : GSem nD τ sig => g.1.1) h, recvL_inj (congrArg Prod.snd h)⟩, fun h => by rw [h.1, h.2]⟩
theorem eq_ahead {c d : Dev nD} {o : Fin 8} : c = ahead d o ↔ d = back c o :=
  ⟨fun h => by rw [h, back_ahead], fun h => by rw [h, ahead_back]⟩

theorem owed_bar (d c : Dev nD) : oweAll d (barCell c) () = ∑ o ∈ Finset.univ.erase 0, if d = back c o then 1 else 0 := by
  rw [oweAll_eq, Pi.add_apply, Finsupp.add_apply, Finset.sum_apply, Finset.sum_apply, Finsupp.finset_sum_apply, Finsupp.finset_sum_apply]
  rw [Finset.sum_eq_zero (s := Finset.univ.erase 0) (f := fun o : Fin 8 => (tallyAt (recvCell (ahead d o) o) () N : CellTallies nD τ sig Unit) (barCell c) ())
    fun o _ => by rw [tallyAt_ne_cell fun h => recv_ne_bar o (congrArg Prod.snd h).symm]; rfl, add_zero]
  refine Finset.sum_congr rfl fun o _ => ?_
  rw [tallyAt_apply]
  simp only [and_true, bar_eq_iff, eq_ahead]

theorem owed_recv (d c : Dev nD) (o : Fin 8) (ho : o ≠ 0) : oweAll d (recvCell c o) () = if d = back c o then N else 0 := by
  rw [oweAll_eq, Pi.add_apply, Finsupp.add_apply, Finset.sum_apply, Finset.sum_apply, Finsupp.finset_sum_apply, Finsupp.finset_sum_apply]
  rw [Finset.sum_eq_zero (s := Finset.univ.erase 0) (f := fun o' : Fin 8 => (tallyAt (barCell (ahead d o')) () 1 : CellTallies nD τ sig Unit) (recvCell c o) ())
    fun o' _ => by rw [tallyAt_ne_cell fun h => recv_ne_bar o (congrArg Prod.snd h)]; rfl, zero_add]
  rw [Finset.sum_eq_single o]
  · rw [tallyAt_apply]; simp only [and_true, recv_eq_iff, eq_ahead]
  · intro o' _ h
    rw [tallyAt_apply, if_neg fun h' => h (recv_eq_iff.mp h'.1).2.symm]
  · exact fun h => absurd (Finset.mem_erase.mpr ⟨ho, Finset.mem_univ _⟩) h

theorem launch_bar (c : Dev nD) :
    tallyOn (barCell c) (launchCredit (Pipeline.owing oweAll) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun (o : Fin 8) _ => (Finset.sum_ite_eq' Finset.univ (back c o) fun _ => 1).trans (if_pos (Finset.mem_univ _))]
  rfl

theorem launch_recv (c : Dev nD) (o : Fin 8) (ho : o ≠ 0) :
    tallyOn (recvCell c o) (launchCredit (Pipeline.owing oweAll) 0 (recvCell c o)) = (tallyAt (recvCell c o) () N : CellTallies nD τ sig Unit) := by
  unfold tallyAt; refine congrArg _ (Finsupp.ext fun u => ?_); cases u
  rw [Pipeline.launchCredit_owing, Finsupp.single_eq_same, Finset.sum_congr rfl fun d _ => owed_recv d c o ho,
    Finset.sum_ite_eq' Finset.univ (back c o) fun _ => N, if_pos (Finset.mem_univ _)]

theorem creds (c : Dev nD) : (Pipeline.launchCred oweAll c : sProp 𝕄) ⊢ claims c := by
  unfold Pipeline.launchCred claims
  rw [bigSep_univ_at _ (SemLoc.reg barS), launch_bar]
  refine sep_mono_right ?_
  have hsub : (Finset.univ.erase (0 : Fin 8)).map ⟨fun o => (SemLoc.dma (recvS o) : SemLoc sig), fun _ _ h => recvL_inj h⟩ ⊆ Finset.univ.erase (SemLoc.reg barS) := by
    intro sm h
    obtain ⟨o, -, rfl⟩ := Finset.mem_map.mp h
    exact Finset.mem_erase.mpr ⟨recv_ne_bar o, Finset.mem_univ _⟩
  rw [show (bigSep (Finset.univ.erase 0) fun o : Fin 8 => (cred (tallyAt (recvCell c o) () N) : sProp 𝕄))
      = bigSep ((Finset.univ.erase (0 : Fin 8)).map ⟨fun o => (SemLoc.dma (recvS o) : SemLoc sig), fun _ _ h => recvL_inj h⟩)
          fun sm => cred (tallyOn ((c.tc : Thread nD τ), sm) (launchCredit (Pipeline.owing oweAll) 0 ((c.tc : Thread nD τ), sm))) from by
    rw [bigSep_map]
    exact bigSep_congr fun o ho => (congrArg cred (launch_recv c o (Finset.ne_of_mem_erase ho))).symm]
  exact BI.bigSep_subset hsub

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred oweAll c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq]
  unfold Φ₁
  rw [sems_eq]
  iintro ⟨⟨Hb, Hs⟩, Hr⟩
  isplitl [Hb]; · iexact Hb
  isplitl [Hs]; · iexact Hs
  iexact Hr

theorem stage_ne_recv : ∀ (w : Fin cfg0.W) (s : Fin (cfg0.win w).nbuf) (o : Fin 8), (cfg0.win w).sem s ≠ recvS o := by decide +kernel

theorem waits (c : Dev nD) : (levAts L lv : sProp 𝕄) ⊢ Pipeline.cellsWaits cfgs (dats m ρ) () 0 c :=
  Pipeline.cellsWaits_intro cfgs (dats m ρ) () 0 c fun w s t =>
    mayWait_stage c _ (stage_ne_recv w s) _ (by
      rcases t with ⟨_ | _, ht⟩
      · exact Or.inl rfl
      · exact Or.inr rfl)

theorem share_eq (c : Dev nD) (w : Fin cfg0.W) : (dats m ρ 0 c).share w = fullShare := by unfold Dat.share; split <;> rfl

/-! ## The run -/

/-- What the array of window `w` holds on device `c` after the run. -/
def finalA (c : Dev nD) (w : Fin cfg0.W) : Buf (Elt F) ((cfg0.win w).arr.view.loc (c : Thread nD τ)) := (dats m ρ 0 c).arrAt w cfg0.N

set_option maxRecDepth 8000 in
/-- From any memory with zero counters the kernel ends on the eight devices, with every array as `finalA` says and every
    counter at zero. -/
theorem run_main : θ_run defs (onTc (τ := τ) (main (F := F))) (s₀ m ρ) (fun r =>
    (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := oweAll) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The two operands hold after the run what they held. -/
theorem final_x (c : Dev nD) : finalA m ρ c (0 : Fin 3) = m ((c : Thread nD τ).loc main_arg0) :=
  (dats (F := F) m ρ 0 c).arrAt_in (0 : Fin 3) rfl _
theorem final_w (c : Dev nD) : finalA m ρ c (1 : Fin 3) = m ((c : Thread nD τ).loc main_arg1) :=
  (dats (F := F) m ρ 0 c).arrAt_in (1 : Fin 3) rfl _

end Cert.KernelIdeal.Run

end
-- ==== Proof.Value.Gelu.lean ====
/-
# The product and the function applied to it

An entry of the result from the two matrices: the tanh form of GELU on the extended reals, with the constants both programs carry, and the one respect in which the two
programs write it differently: how the cube is bracketed.
-/
module

public import Idealize.ShloMosaic.PureOps.Ideal.Laws
public import Idealize.ShloMosaic.Lib.ValueIdx

@[expose] public section

noncomputable section

namespace Cert.Value

open Idealize.ShloMosaic
open Idealize.ShloMosaic.ValueIdx
open scoped BigOperators

/-- `½·y·(1 + tanh(c·(y + k·y³)))`, the constants being the `f32` words of `½`, `1`, `c` and `k`. -/
def gelu (y : EReal) : EReal :=
  (Ideal.ofBits .f32 0x3F000000#32 * y) * (Ideal.ofBits .f32 0x3F800000#32
    + Ideal.tanh (Ideal.ofBits .f32 0x3F4C422A#32 * (y + Ideal.ofBits .f32 0x3D372713#32 * ((y * y) * y))))

/-- A cube with a factor in front may be bracketed from the left. -/
theorem cube_left (k y : EReal) : ((k * y) * y) * y = k * ((y * y) * y) := by
  rw [mul_assoc k y y, mul_assoc k (y * y) y]

/-- Row `i`, column `q` of `gelu` of the product of `x`, of `r` rows, and `w`. -/
def entry {r : ℕ} (x : FVec Ideal ⟨2, ![r, 1024]⟩ .f32) (w : FVec Ideal ⟨2, ![1024, 1024]⟩ .f32) (i : Fin r) (q : Fin 1024) : EReal :=
  gelu (∑ k : Fin 1024, x (ix2 i k) * w (ix2 k q))

end Cert.Value

end
-- ==== Proof.Value.Reference.lean ====
/-
# What the reference computes

Each entry of the reference's result is `gelu` of the corresponding entry of the product of the whole arrays.
-/
module

public import proofs.«01_k».proof.Proof.Gen.ReferenceIdeal.Run
public import proofs.«01_k».proof.Proof.Value.Gelu
public import Idealize.ShloMosaic.Lib.StackMember
public import Idealize.ShloMosaic.Lib.Quiescent

@[expose] public section

noncomputable section

namespace Cert.Value

open Cert.ReferenceIdeal Cert.ReferenceIdeal.Gen
open Idealize.ShloMosaic
open Idealize.ShloMosaic.TcCoe Idealize.ShloMosaic.ValueIdx Idealize.SL.Sem
open scoped BigOperators

/-- The result of the reference on the whole arrays. -/
def whole (x w : FVec Ideal S1024x1024 .f32) : FVec Ideal S1024x1024 .f32 := fun j => entry (r := 1024) x w (j 0) (j 1)

/-- The product of the whole arrays. -/
abbrev product (x w : FVec Ideal S1024x1024 .f32) : FVec Ideal S1024x1024 .f32 :=
  Host.dotGeneral dot_S1024x1024_S1024x1024_S1024x1024_1_0_0_1_n_n none x w

/-- It is a sum over the 1024 inner positions. -/
theorem product_apply (x w : FVec Ideal S1024x1024 .f32) (j : S1024x1024.Idx) :
    product x w j = ∑ k : Fin 1024, x (ix2 (j 0) k) * w (ix2 k (j 1)) := by
  conv_lhs => rw [eq_ix2 j]
  exact StackMember.dotGeneral_plain_apply (m := 1024) (k := 1024) (n := 1024) none x w (j 0) (j 1)

/-- The reference's operations on the product are `gelu` of each entry. -/
theorem operations_eq (x w : FVec Ideal S1024x1024 .f32) :
    (mulf (mulf (broadcastInDim S1024x1024 ![] bcast_S_S1024x1024 (constant S_ .f32 0x3F000000#32)) (product x w))
      (addf (broadcastInDim S1024x1024 ![] bcast_S_S1024x1024 (constant S_ .f32 0x3F800000#32))
        (Host.tanh (mulf (broadcastInDim S1024x1024 ![] bcast_S_S1024x1024 (constant S_ .f32 0x3F4C422A#32))
          (addf (product x w) (mulf (broadcastInDim S1024x1024 ![] bcast_S_S1024x1024 (constant S_ .f32 0x3D372713#32))
            (mulf (mulf (product x w) (product x w)) (product x w))))))) : FVec Ideal S1024x1024 .f32) = whole x w := by
  funext j
  unfold whole entry gelu
  rw [← product_apply x w j]
  rfl

/-- The reference's run: its result ends at `whole` of its arguments, which are left as they were, and no semaphore is raised. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c.tc : Thread nD τ).loc main_v13) = whole (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 := by
  exact (θ_run _ _ _).mono (fun r h => ⟨fun c => ⟨(h c).1.trans (operations_eq _ _), (h c).2⟩, sem_eq_zero_of_no_sems rfl r.2⟩) (Value.run m ρ)

end Cert.Value

end
-- ==== Proof.Value.Block.lean ====
/-
# What one block computes

At the ideal values: the product of a device's rows of `x` with half of the columns of `w`, `gelu` applied, is cut into four
squares; each square, rounded and widened again without effect, is read here at a row and a column.
-/
module

public import proofs.«01_k».proof.Proof.Run.KernelIdeal.Contents
public import proofs.«01_k».proof.Proof.Value.Gelu
public import Idealize.ShloMosaic.Lib.MatmulPlain
public import Idealize.ShloMosaic.Lib.Pipeline.ValueKit

@[expose] public section

noncomputable section

namespace Cert.Value

open Cert.KernelIdeal Cert.KernelIdeal.Gen Cert.KernelIdeal.Run
open Idealize.ShloMosaic hiding ix2
open Idealize.ShloMosaic.TcCoe Idealize.ShloMosaic.ValueIdx
open scoped BigOperators

/-- The left half's vector at row `i`, column `j`: `gelu` of the row of `x` times the column of the half of `w`. -/
theorem left_half (x : FVec Ideal S128x1024 .f32) (w : FVec Ideal S1024x512 .f32) (i : Fin 128) (j : Fin 512) :
    k0_pay2 x w (ix2 i j) = gelu (∑ k : Fin 1024, x (ix2 i k) * w (ix2 k j)) := by
  have hy : matmul dot_S128x1024_S1024x512_S128x512_1_0_0_1_n_n none x w (constant (F := Ideal) S128x512 .f32 0x00000000#32) (ix2 i j)
      = ∑ k : Fin 1024, x (ix2 i k) * w (ix2 k j) := by
    refine (Ideal.matmul_plain_apply (M := 128) (K := 1024) (N := 512) none x w _ i j).trans ?_
    rw [constant_apply, Ideal.ofBits_zero_f32, zero_add]
  unfold k0_pay2 gelu
  rw [shapeCast_self, ← hy, ← cube_left]
  rfl

/-- The right half's is computed in the same way. -/
theorem right_eq_left (x : FVec Ideal S128x1024 .f32) (w : FVec Ideal S1024x512 .f32) : k0_pay7 x w = k0_pay2 x w := rfl

/-- A square cut at column `o`, rounded and given a leading axis, reads the vector `o` columns further on. -/
theorem cut_apply (v : FVec Ideal S128x512 .f32) (o : Nat) (h : S128x512.Slices ![0, o] S128x128) (hb : FTy.bf16.bits < FTy.f32.bits)
    (hc : S128x128.ShapeCasts S1x128x128) (hc' : S1x128x128.ShapeCasts S128x128) (i j : Fin 128) (l : Fin 512) (hl : l.val = o + j.val) :
    shapeCast S128x128 (shapeCast S1x128x128 (truncf .bf16 (extractStridedSlice S128x128 ![0, o] v h) hb) hc) hc' (ix2 i j) = v (ix2 i l) := by
  rw [shapeCast_shapeCast]
  show extractStridedSlice S128x128 ![0, o] v h (ix2 i j) = _
  refine congrArg v (funext fun a => Fin.ext ?_)
  match a with
  | ⟨0, _⟩ => show 0 + i.val = i.val; omega
  | ⟨1, _⟩ => exact hl.symm

/-! ## The operands as they are read -/

variable (m : (ℓ : Loc nD τ sig) → Buf (Elt Ideal) ℓ)

/-- Both operands are staged whole. -/
theorem staged_x (c : Dev nD) (i : S128x1024.Idx) : (xstg m c : FVec Ideal S128x1024 .f32) i = (m ((c : Thread nD τ).loc main_arg0) : FVec Ideal S128x1024 .f32) i := by
  show m ((c : Thread nD τ).loc main_arg0) ((win0_0.blk (0 : Fin 1)).view.emb i) = _
  refine congrArg (m ((c : Thread nD τ).loc main_arg0)) (funext fun a => Fin.ext ?_)
  match a with
  | ⟨0, _⟩ => show 0 * 128 + 1 * (i 0).val = (i 0).val; omega
  | ⟨1, _⟩ => show 0 * 1024 + 1 * (i 1).val = (i 1).val; omega

theorem staged_w (c : Dev nD) (i : S1024x1024.Idx) : (wstg m c : FVec Ideal S1024x1024 .f32) i = (m ((c : Thread nD τ).loc main_arg1) : FVec Ideal S1024x1024 .f32) i := by
  show m ((c : Thread nD τ).loc main_arg1) ((win0_1.blk (0 : Fin 1)).view.emb i) = _
  refine congrArg (m ((c : Thread nD τ).loc main_arg1)) (funext fun a => Fin.ext ?_)
  match a with
  | ⟨0, _⟩ => show 0 * 1024 + 1 * (i 0).val = (i 0).val; omega
  | ⟨1, _⟩ => show 0 * 1024 + 1 * (i 1).val = (i 1).val; omega

/-- Column `l` of the left half of `w` is its column `l`, -/
theorem left_columns (c : Dev nD) (k : Fin 1024) (l : Fin 512) (q : Fin 1024) (hq : q.val = l.val) :
    (wlo m c : FVec Ideal S1024x512 .f32) (ix2 k l) = (m ((c : Thread nD τ).loc main_arg1) : FVec Ideal S1024x1024 .f32) (ix2 k q) := by
  refine Eq.trans (congrArg (wstg m c) (?_ : _ = ix2 k q)) (staged_w m c (ix2 k q))
  refine funext fun a => Fin.ext ?_
  match a with
  | ⟨0, _⟩ => show 0 + 1 * k.val = k.val; omega
  | ⟨1, _⟩ => show 0 + 1 * l.val = q.val; omega

/-- and column `l` of the right half its column `512 + l`. -/
theorem right_columns (c : Dev nD) (k : Fin 1024) (l : Fin 512) (q : Fin 1024) (hq : q.val = 512 + l.val) :
    (whi m c : FVec Ideal S1024x512 .f32) (ix2 k l) = (m ((c : Thread nD τ).loc main_arg1) : FVec Ideal S1024x1024 .f32) (ix2 k q) := by
  refine Eq.trans (congrArg (wstg m c) (?_ : _ = ix2 k q)) (staged_w m c (ix2 k q))
  refine funext fun a => Fin.ext ?_
  match a with
  | ⟨0, _⟩ => show 0 + 1 * k.val = k.val; omega
  | ⟨1, _⟩ => show 512 + 1 * l.val = q.val; omega

/-! ## The block for a device -/

/-- Column `l` of the left half's vector is column `l` of `gelu` of the product, -/
theorem left_block (c : Dev nD) (i : Fin 128) (l : Fin 512) (q : Fin 1024) (hq : q.val = l.val) :
    k0_pay2 (k0_pay1 (xstg m c)) (wlo m c) (ix2 i l) = entry (m ((c : Thread nD τ).loc main_arg0)) (m ((c : Thread nD τ).loc main_arg1)) i q := by
  rw [left_half]
  refine congrArg gelu (Finset.sum_congr rfl fun k _ => congrArg₂ (· * ·) ?_ (left_columns m c k l q hq))
  unfold k0_pay1
  rw [shapeCast_self]; exact staged_x m c _

/-- and column `l` of the right half's its column `512 + l`. -/
theorem right_block (c : Dev nD) (i : Fin 128) (l : Fin 512) (q : Fin 1024) (hq : q.val = 512 + l.val) :
    k0_pay7 (k0_pay1 (xstg m c)) (whi m c) (ix2 i l) = entry (m ((c : Thread nD τ).loc main_arg0)) (m ((c : Thread nD τ).loc main_arg1)) i q := by
  rw [right_eq_left, left_half]
  refine congrArg gelu (Finset.sum_congr rfl fun k _ => congrArg₂ (· * ·) ?_ (right_columns m c k l q hq))
  unfold k0_pay1
  rw [shapeCast_self]; exact staged_x m c _

/-- The block device `c` computes for `d`, as `d` stores it: `gelu` of `c`'s rows of `x` times `w`, in the columns from `128·d` on. -/
theorem block_value (c : Dev nD) (d : Fin 8) (i j : Fin 128) (q : Fin 1024) (hq : q.val = 128 * d.val + j.val) :
    k0_pay12 (blockFor m c d) (ix2 i j) = entry (m ((c : Thread nD τ).loc main_arg0)) (m ((c : Thread nD τ).loc main_arg1)) i q := by
  have hj := j.isLt
  have lo : ∀ (o : Nat) (h : o + 128 ≤ 512), q.val = o + j.val →
      k0_pay2 (k0_pay1 (xstg m c)) (wlo m c) (ix2 i ⟨o + j.val, by omega⟩) = entry (m ((c : Thread nD τ).loc main_arg0)) (m ((c : Thread nD τ).loc main_arg1)) i q :=
    fun o h e => left_block m c i _ q e
  have hi : ∀ (o : Nat) (h : o + 128 ≤ 512), q.val = 512 + o + j.val →
      k0_pay7 (k0_pay1 (xstg m c)) (whi m c) (ix2 i ⟨o + j.val, by omega⟩) = entry (m ((c : Thread nD τ).loc main_arg0)) (m ((c : Thread nD τ).loc main_arg1)) i q :=
    fun o h e => right_block m c i _ q (e.trans (Nat.add_assoc ..))
  match d, hq with
  | 0, hq => exact (cut_apply _ 0 slices_S128x512_o0_0_S128x128 bitsLt_bf16_f32 _ _ i j _ rfl).trans (lo 0 (by decide) hq)
  | 1, hq => exact (cut_apply _ 128 slices_S128x512_o0_128_S128x128 bitsLt_bf16_f32 _ _ i j _ rfl).trans (lo 128 (by decide) hq)
  | 2, hq => exact (cut_apply _ 256 slices_S128x512_o0_256_S128x128 bitsLt_bf16_f32 _ _ i j _ rfl).trans (lo 256 (by decide) hq)
  | 3, hq => exact (cut_apply _ 384 slices_S128x512_o0_384_S128x128 bitsLt_bf16_f32 _ _ i j _ rfl).trans (lo 384 (by decide) hq)
  | 4, hq => exact (cut_apply _ 0 slices_S128x512_o0_0_S128x128 bitsLt_bf16_f32 _ _ i j _ rfl).trans (hi 0 (by decide) hq)
  | 5, hq => exact (cut_apply _ 128 slices_S128x512_o0_128_S128x128 bitsLt_bf16_f32 _ _ i j _ rfl).trans (hi 128 (by decide) hq)
  | 6, hq => exact (cut_apply _ 256 slices_S128x512_o0_256_S128x128 bitsLt_bf16_f32 _ _ i j _ rfl).trans (hi 256 (by decide) hq)
  | 7, hq => exact (cut_apply _ 384 slices_S128x512_o0_384_S128x128 bitsLt_bf16_f32 _ _ i j _ rfl).trans (hi 384 (by decide) hq)

end Cert.Value

end
-- ==== Proof.Value.Array.lean ====
/-
# What the result array holds

The one grid point writes the whole array back, so the array is the result block of the run; in the rows of source `s` that is the
block `s` computed for the device.
-/
module

public import proofs.«01_k».proof.Proof.Run.KernelIdeal.Launch
public import proofs.«01_k».proof.Proof.Value.Block

@[expose] public section

noncomputable section

namespace Cert.Value

open Cert.KernelIdeal Cert.KernelIdeal.Gen Cert.KernelIdeal.Run
open Idealize.ShloMosaic hiding ix2
open Idealize.ShloMosaic.TcCoe Idealize.ShloMosaic.ValueIdx
open Idealize.ShloMosaic.Pipeline (Dat)
open scoped BigOperators

variable (m : (ℓ : Loc nD τ sig) → Buf (Elt Ideal) ℓ) (ρ : Dev nD → PrngReg)

/-- The result array ends holding the result block. -/
theorem array_eq (c : Dev nD) : (finalA m ρ c (2 : Fin 3) : FVec Ideal S1024x128 .f32) = outBuf m c := by
  refine (dats (F := Ideal) m ρ 0 c).arrAt_eq_of_after_last (2 : Fin 3) t₀ (by decide +kernel) (outBuf m c) fun j => ?_
  rfl

/-- Row `128·s + i` of it is row `i` of the block source `s` computed for `c`. -/
theorem out_value (c : Dev nD) (s : Fin 8) (i j : Fin 128) (r : Fin 1024) (hr : r.val = 128 * s.val + i.val) :
    (outBuf m c : FVec Ideal S1024x128 .f32) (ix2 r j) = k0_pay12 (blockFor m s c) (ix2 i j) := by
  have e : (ix2 r j : S1024x128.Idx) = (outRect s).emb (ix2 i j) := by
    refine funext fun a => Fin.ext ?_
    match a with
    | ⟨0, _⟩ => show r.val = 128 * s.val + 1 * i.val; omega
    | ⟨1, _⟩ => show j.val = 0 + 1 * j.val; omega
  have he : (ix2 r j : S1024x128.Idx) ∈ (outRect s).set := mem_outSet.mpr (show r.val / 128 = s.val by have := i.isLt; omega)
  refine (out_row m c s (m ((c : Thread nD τ).loc cc0_stg2_0)) _ he).symm.trans ?_
  rw [e]
  exact View.write_emb_of_mem (Val := Elt Ideal) (v := oM.access (outRect s)) _ _ (Finset.mem_univ _)

/-- So row `128·s + i`, column `j` of device `c`'s result is `gelu` of row `i` of device `s`'s rows of `x` times column `128·c + j`
    of `w` as `s` holds it. -/
theorem array_value (c : Dev nD) (s : Fin 8) (i j : Fin 128) (r q : Fin 1024) (hr : r.val = 128 * s.val + i.val) (hq : q.val = 128 * c.val + j.val) :
    (finalA m ρ c (2 : Fin 3) : FVec Ideal S1024x128 .f32) (ix2 r j)
      = entry (m (((s : Dev nD) : Thread nD τ).loc main_arg0)) (m (((s : Dev nD) : Thread nD τ).loc main_arg1)) i q := by
  rw [array_eq, out_value m c s i j r hr]
  exact block_value m s c i j q hq

end Cert.Value

end
-- ==== Proof.Value.Equation.lean ====
/-
# The equation

Each device's result is its part of the reference's: with the devices' rows of `x` the parts of one array, and `w` the same on
every device, the result array of device `c` is the `c`-th part of the columns of `gelu` of the product.
-/
module

public import proofs.«01_k».proof.Proof.Value.Array
public import proofs.«01_k».proof.Proof.Value.Reference
public import Idealize.ShloMosaic.Lib.Layout

@[expose] public section

noncomputable section

namespace Cert.Value

open Cert.KernelIdeal Cert.KernelIdeal.Gen Cert.KernelIdeal.Run
open Idealize.ShloMosaic hiding ix2 eq_ix2
open Idealize.ShloMosaic.TcCoe Idealize.ShloMosaic.ValueIdx
open scoped BigOperators

variable (m : (ℓ : Loc nD τ sig) → Buf (Elt Ideal) ℓ) (ρ : Dev nD → PrngReg)

/-- Row `i` of part `s` of an array cut by rows is row `128·s + i` of the array. -/
theorem rows_apply (X : FVec Ideal S1024x1024 .f32) (s : Fin 8) (i : Fin 128) (k : Fin 1024) (r : Fin 1024) (hr : r.val = 128 * s.val + i.val) :
    Layout.block ⟨2, ![128, 1024]⟩ ⟨2, ![1024, 1024]⟩ 0 8 s X (by decide) (ix2 i k) = X (ix2 r k) := by
  refine congrArg X (funext fun a => Fin.ext ?_)
  match a with
  | ⟨0, _⟩ => show s.val * 128 + i.val = r.val; omega
  | ⟨1, _⟩ => rfl

/-- An entry computed from part `s` of the rows is the whole array's, in the row that one is of it. -/
theorem entry_rows (X W : FVec Ideal S1024x1024 .f32) (s : Fin 8) (i : Fin 128) (r q : Fin 1024) (hr : r.val = 128 * s.val + i.val) :
    entry (r := 128) (Layout.block ⟨2, ![128, 1024]⟩ ⟨2, ![1024, 1024]⟩ 0 8 s X) W i q = entry (r := 1024) X W r q :=
  congrArg gelu (Finset.sum_congr rfl fun k _ => congrArg (· * W (ix2 k q)) (rows_apply X s i k r hr))

/-- Device `c`'s result array is part `c` of the columns of the reference's result. -/
theorem array_eq_part (X W : FVec Ideal S1024x1024 .f32)
    (hx : ∀ c : Dev nD, m ((c.tc : Thread nD τ).loc main_arg0) = Layout.block ⟨2, ![128, 1024]⟩ ⟨2, ![1024, 1024]⟩ 0 8 c X)
    (hw : ∀ c : Dev nD, m ((c.tc : Thread nD τ).loc main_arg1) = W) (c : Dev nD) :
    (finalA m ρ c (2 : Fin 3) : FVec Ideal S1024x128 .f32) = Layout.block ⟨2, ![1024, 128]⟩ ⟨2, ![1024, 1024]⟩ 1 8 c (whole X W) := by
  funext j
  have hr : (j 0).val < 1024 := (j 0).isLt
  have hc : c.val < 8 := c.isLt
  have hl : (j 1).val < 128 := (j 1).isLt
  obtain ⟨r, l, rfl⟩ : ∃ (r : Fin 1024) (l : Fin 128), j = ix2 r l := ⟨j 0, j 1, eq_ix2 j⟩
  have hrs : r.val = 128 * (r.val / 128) + r.val % 128 := (Nat.div_add_mod _ _).symm
  refine (array_value m ρ c ⟨r.val / 128, by omega⟩ ⟨r.val % 128, Nat.mod_lt _ (by decide)⟩ l r ⟨128 * c.val + l.val, by omega⟩ hrs rfl).trans ?_
  rw [hx, hw]
  refine (entry_rows X W ⟨r.val / 128, by omega⟩ ⟨r.val % 128, Nat.mod_lt _ (by decide)⟩ r ⟨128 * c.val + l.val, by omega⟩ hrs).trans ?_
  refine congrArg₂ (entry (r := 1024) X W) (Fin.ext rfl) (Fin.ext ?_)
  show 128 * c.val + l.val = c.val * 128 + l.val
  omega

end Cert.Value

end
-- ==== Proof.lean ====
/-
# The claims

The kernel's run, at the machine's words and at the ideal values, leaves its arguments as they were and no semaphore raised, and
so does the reference's; and at the ideal values each device's result is its part of the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run.Kernel.Launch
public import proofs.«01_k».proof.Proof.Run.KernelIdeal.Launch
public import proofs.«01_k».proof.Proof.Value.Reference
public import proofs.«01_k».proof.Proof.Value.Equation
public import Idealize.ShloMosaic.Adequacy
public import Idealize.ShloMosaic.Init

@[expose] public section

noncomputable section

namespace Cert.Proof

open Idealize.ShloMosaic Idealize.ShloMosaic.TcCoe Idealize.SL.Sem

/-- The kernel at the machine's words runs, its arguments end unchanged, and every semaphore ends at zero. -/
theorem kernel_quiescent : Cert.quiescent_Kernel (hKernel := Cert.Kernel.Gen.facts) := fun m g _ =>
  (θ_run _ _ _).mono
    (fun _ h => ⟨fun c => ⟨(h.1 c (0 : Fin 3)).trans (Cert.Kernel.Run.final_x m g c), (h.1 c (1 : Fin 3)).trans (Cert.Kernel.Run.final_w m g c)⟩, h.2⟩)
    (Cert.Kernel.Run.run_main m g)

/-- So does the kernel at the ideal values. -/
theorem kernelIdeal_quiescent : Cert.quiescent_KernelIdeal (hKernelIdeal := Cert.KernelIdeal.Gen.facts) := fun m g _ =>
  (θ_run _ _ _).mono
    (fun _ h => ⟨fun c => ⟨(h.1 c (0 : Fin 3)).trans (Cert.KernelIdeal.Run.final_x m g c), (h.1 c (1 : Fin 3)).trans (Cert.KernelIdeal.Run.final_w m g c)⟩, h.2⟩)
    (Cert.KernelIdeal.Run.run_main m g)

/-- So does the reference. -/
theorem referenceIdeal_quiescent : Cert.quiescent_ReferenceIdeal (hReferenceIdeal := Cert.ReferenceIdeal.Gen.facts) := fun m g _ =>
  (θ_run _ _ _).mono (fun _ h => ⟨fun c => (h.1 c).2, h.2⟩) (Cert.Value.reference_run m g)

/-- On arguments that are the parts of the reference's, each device's result is its part of the reference's result. -/
theorem results_equal : Cert.algebraic_KernelIdeal_ReferenceIdeal (hKernelIdeal := Cert.KernelIdeal.Gen.facts) (hReferenceIdeal := Cert.ReferenceIdeal.Gen.facts) :=
  fun m g m' g' _ hargs => ⟨Cert.Value.whole _ _,
    (θ_run _ _ _).mono
      (fun _ h c => ⟨(h.1 c (2 : Fin 3)).trans (Cert.Value.array_eq_part m g _ _ (fun c => (hargs c).1) (fun c => (hargs c).2) c),
        (h.1 c (0 : Fin 3)).trans (Cert.KernelIdeal.Run.final_x m g c), (h.1 c (1 : Fin 3)).trans (Cert.KernelIdeal.Run.final_w m g c)⟩)
      (Cert.KernelIdeal.Run.run_main m g),
    (θ_run _ _ _).mono (fun _ h => h.1 0) (Cert.Value.reference_run m' g')⟩

/-- Everything the certificate claims. -/
theorem claim : Cert.Claim :=
  ⟨Cert.Kernel.Gen.facts, Cert.KernelIdeal.Gen.facts, Cert.ReferenceIdeal.Gen.facts,
    kernel_quiescent, kernelIdeal_quiescent, referenceIdeal_quiescent, trivial, results_equal⟩

end Cert.Proof

end
